-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x1024 : Shape := ⟨2, ![1024, 1024]⟩
abbrev S128x1024 : Shape := ⟨2, ![128, 1024]⟩
abbrev S8x128x128 : Shape := ⟨3, ![8, 128, 128]⟩
abbrev S8 : Shape := ⟨1, ![8]⟩
abbrev S_ : Shape := ⟨0, ![]⟩
abbrev S1 : Shape := ⟨1, ![1]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S128x1024, .f32⟩
  | .local _ .vmem, ⟨0, _⟩ => ⟨S128x1024, .f32⟩
  | .local _ .vmem, ⟨1, _⟩ => ⟨S1024x128, .f32⟩
  | .local _ .vmem, ⟨2, _⟩ => ⟨S1024x1024, .f32⟩
  | .local _ .vmem, ⟨3, _⟩ => ⟨S1024x128, .bf16⟩
  | .local _ .vmem, ⟨4, _⟩ => ⟨S8x128x128, .bf16⟩
  | .local _ .vmem, ⟨5, _⟩ => ⟨S1024x1024, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c128_i32 : BitVec 32 := 128#32
  let v111 : BitVec 32 := Scalar.muli v110 c128_i32
  let c0_i32_81 : BitVec 32 := 0#32
  ![v111.toNat, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c1_i32_77 : BitVec 32 := 1#32
  let v112 : BitVec 32 := Scalar.muli v110 c1_i32_77
  let v113 : BitVec 32 := Scalar.addi c0_i32_78 v112
  v113.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_82 : BitVec 32 := 2#32
  let v121 : BitVec 32 := Scalar.addi v2 c2_i32_82
  let c8_i32_83 : BitVec 32 := 8#32
  let c0_i32_84 : BitVec 32 := 0#32
  let v122 : BitVec 1 := Scalar.cmpi .eq c8_i32_83 c0_i32_84
  let c1_i32_85 : BitVec 32 := 1#32
  let v123 : BitVec 32 := Scalar.select v122 c1_i32_85 c8_i32_83
  let v124 : BitVec 32 := Scalar.remsi v121 v123
  let c0_i32_87 : BitVec 32 := 0#32
  let v126 : BitVec 1 := Scalar.cmpi .slt v124 c0_i32_87
  let c0_i32_88 : BitVec 32 := 0#32
  let v127 : BitVec 1 := Scalar.cmpi .slt v123 c0_i32_88
  let v128 : BitVec 1 := Scalar.xori v126 v127
  let c0_i32_86 : BitVec 32 := 0#32
  let v125 : BitVec 1 := Scalar.cmpi .ne v124 c0_i32_86
  let v129 : BitVec 1 := Scalar.andi v128 v125
  let v130 : BitVec 32 := Scalar.addi v124 v123
  let v131 : BitVec 32 := Scalar.select v129 v130 v124
  let c1_i32_93 : BitVec 32 := 1#32
  let v133 : BitVec 32 := Scalar.muli v131 c1_i32_93
  let v134 : BitVec 32 := Scalar.addi c0_i32_94 v133
  v134.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_98 : BitVec 32 := 3#32
  let v142 : BitVec 32 := Scalar.addi v2 c3_i32_98
  let c8_i32_99 : BitVec 32 := 8#32
  let c0_i32_100 : BitVec 32 := 0#32
  let v143 : BitVec 1 := Scalar.cmpi .eq c8_i32_99 c0_i32_100
  let c1_i32_101 : BitVec 32 := 1#32
  let v144 : BitVec 32 := Scalar.select v143 c1_i32_101 c8_i32_99
  let v145 : BitVec 32 := Scalar.remsi v142 v144
  let c0_i32_103 : BitVec 32 := 0#32
  let v147 : BitVec 1 := Scalar.cmpi .slt v145 c0_i32_103
  let c0_i32_104 : BitVec 32 := 0#32
  let v148 : BitVec 1 := Scalar.cmpi .slt v144 c0_i32_104
  let v149 : BitVec 1 := Scalar.xori v147 v148
  let c0_i32_102 : BitVec 32 := 0#32
  let v146 : BitVec 1 := Scalar.cmpi .ne v145 c0_i32_102
  let v150 : BitVec 1 := Scalar.andi v149 v146
  let v151 : BitVec 32 := Scalar.addi v145 v144
  let v152 : BitVec 32 := Scalar.select v150 v151 v145
  let c1_i32_109 : BitVec 32 := 1#32
  let v154 : BitVec 32 := Scalar.muli v152 c1_i32_109
  let v155 : BitVec 32 := Scalar.addi c0_i32_110 v154
  v155.toNat
def k0_dev11 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v163 : BitVec 32 := Scalar.addi v2 c4_i32_114
  let c8_i32_115 : BitVec 32 := 8#32
  let c0_i32_116 : BitVec 32 := 0#32
  let v164 : BitVec 1 := Scalar.cmpi .eq c8_i32_115 c0_i32_116
  let c1_i32_117 : BitVec 32 := 1#32
  let v165 : BitVec 32 := Scalar.select v164 c1_i32_117 c8_i32_115
  let v166 : BitVec 32 := Scalar.remsi v163 v165
  let c0_i32_119 : BitVec 32 := 0#32
  let v168 : BitVec 1 := Scalar.cmpi .slt v166 c0_i32_119
  let c0_i32_120 : BitVec 32 := 0#32
  let v169 : BitVec 1 := Scalar.cmpi .slt v165 c0_i32_120
  let v170 : BitVec 1 := Scalar.xori v168 v169
  let c0_i32_118 : BitVec 32 := 0#32
  let v167 : BitVec 1 := Scalar.cmpi .ne v166 c0_i32_118
  let v171 : BitVec 1 := Scalar.andi v170 v167
  let v172 : BitVec 32 := Scalar.addi v166 v165
  let v173 : BitVec 32 := Scalar.select v171 v172 v166
  let c1_i32_125 : BitVec 32 := 1#32
  let v175 : BitVec 32 := Scalar.muli v173 c1_i32_125
  let v176 : BitVec 32 := Scalar.addi c0_i32_126 v175
  v176.toNat
def k0_dev12 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_130 : BitVec 32 := 5#32
  let v184 : BitVec 32 := Scalar.addi v2 c5_i32_130
  let c8_i32_131 : BitVec 32 := 8#32
  let c0_i32_132 : BitVec 32 := 0#32
  let v185 : BitVec 1 := Scalar.cmpi .eq c8_i32_131 c0_i32_132
  let c1_i32_133 : BitVec 32 := 1#32
  let v186 : BitVec 32 := Scalar.select v185 c1_i32_133 c8_i32_131
  let v187 : BitVec 32 := Scalar.remsi v184 v186
  let c0_i32_135 : BitVec 32 := 0#32
  let v189 : BitVec 1 := Scalar.cmpi .slt v187 c0_i32_135
  let c0_i32_136 : BitVec 32 := 0#32
  let v190 : BitVec 1 := Scalar.cmpi .slt v186 c0_i32_136
  let v191 : BitVec 1 := Scalar.xori v189 v190
  let c0_i32_134 : BitVec 32 := 0#32
  let v188 : BitVec 1 := Scalar.cmpi .ne v187 c0_i32_134
  let v192 : BitVec 1 := Scalar.andi v191 v188
  let v193 : BitVec 32 := Scalar.addi v187 v186
  let v194 : BitVec 32 := Scalar.select v192 v193 v187
  let c1_i32_141 : BitVec 32 := 1#32
  let v196 : BitVec 32 := Scalar.muli v194 c1_i32_141
  let v197 : BitVec 32 := Scalar.addi c0_i32_142 v196
  v197.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_146 : BitVec 32 := 6#32
  let v205 : BitVec 32 := Scalar.addi v2 c6_i32_146
  let c8_i32_147 : BitVec 32 := 8#32
  let c0_i32_148 : BitVec 32 := 0#32
  let v206 : BitVec 1 := Scalar.cmpi .eq c8_i32_147 c0_i32_148
  let c1_i32_149 : BitVec 32 := 1#32
  let v207 : BitVec 32 := Scalar.select v206 c1_i32_149 c8_i32_147
  let v208 : BitVec 32 := Scalar.remsi v205 v207
  let c0_i32_151 : BitVec 32 := 0#32
  let v210 : BitVec 1 := Scalar.cmpi .slt v208 c0_i32_151
  let c0_i32_152 : BitVec 32 := 0#32
  let v211 : BitVec 1 := Scalar.cmpi .slt v207 c0_i32_152
  let v212 : BitVec 1 := Scalar.xori v210 v211
  let c0_i32_150 : BitVec 32 := 0#32
  let v209 : BitVec 1 := Scalar.cmpi .ne v208 c0_i32_150
  let v213 : BitVec 1 := Scalar.andi v212 v209
  let v214 : BitVec 32 := Scalar.addi v208 v207
  let v215 : BitVec 32 := Scalar.select v213 v214 v208
  let c1_i32_157 : BitVec 32 := 1#32
  let v217 : BitVec 32 := Scalar.muli v215 c1_i32_157
  let v218 : BitVec 32 := Scalar.addi c0_i32_158 v217
  v218.toNat
def k0_dev14 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_162 : BitVec 32 := 7#32
  let v226 : BitVec 32 := Scalar.addi v2 c7_i32_162
  let c8_i32_163 : BitVec 32 := 8#32
  let c0_i32_164 : BitVec 32 := 0#32
  let v227 : BitVec 1 := Scalar.cmpi .eq c8_i32_163 c0_i32_164
  let c1_i32_165 : BitVec 32 := 1#32
  let v228 : BitVec 32 := Scalar.select v227 c1_i32_165 c8_i32_163
  let v229 : BitVec 32 := Scalar.remsi v226 v228
  let c0_i32_167 : BitVec 32 := 0#32
  let v231 : BitVec 1 := Scalar.cmpi .slt v229 c0_i32_167
  let c0_i32_168 : BitVec 32 := 0#32
  let v232 : BitVec 1 := Scalar.cmpi .slt v228 c0_i32_168
  let v233 : BitVec 1 := Scalar.xori v231 v232
  let c0_i32_166 : BitVec 32 := 0#32
  let v230 : BitVec 1 := Scalar.cmpi .ne v229 c0_i32_166
  let v234 : BitVec 1 := Scalar.andi v233 v230
  let v235 : BitVec 32 := Scalar.addi v229 v228
  let v236 : BitVec 32 := Scalar.select v234 v235 v229
  let c1_i32_173 : BitVec 32 := 1#32
  let v238 : BitVec 32 := Scalar.muli v236 c1_i32_173
  let v239 : BitVec 32 := Scalar.addi c0_i32_174 v238
  v239.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_178 : BitVec 32 := 128#32
  let v247 : BitVec 32 := Scalar.muli v2 c128_i32_178
  let v248 : Index := Scalar.indexCast v247
  let c0_179 : Index := 0#32
  ![v248.toNat, 0]
def k0_off3 (d0 : Dev nD) (c0_i32_183 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v253 : BitVec 32 := Scalar.subi v2 c0_i32_183
  let c8_i32_184 : BitVec 32 := 8#32
  let c0_i32_185 : BitVec 32 := 0#32
  let v254 : BitVec 1 := Scalar.cmpi .eq c8_i32_184 c0_i32_185
  let c1_i32_186 : BitVec 32 := 1#32
  let v255 : BitVec 32 := Scalar.select v254 c1_i32_186 c8_i32_184
  let v256 : BitVec 32 := Scalar.remsi v253 v255
  let c0_i32_188 : BitVec 32 := 0#32
  let v258 : BitVec 1 := Scalar.cmpi .slt v256 c0_i32_188
  let c0_i32_189 : BitVec 32 := 0#32
  let v259 : BitVec 1 := Scalar.cmpi .slt v255 c0_i32_189
  let v260 : BitVec 1 := Scalar.xori v258 v259
  let c0_i32_187 : BitVec 32 := 0#32
  let v257 : BitVec 1 := Scalar.cmpi .ne v256 c0_i32_187
  let v261 : BitVec 1 := Scalar.andi v260 v257
  let v262 : BitVec 32 := Scalar.addi v256 v255
  let v263 : BitVec 32 := Scalar.select v261 v262 v256
  let c128_i32_190 : BitVec 32 := 128#32
  let v264 : BitVec 32 := Scalar.muli v263 c128_i32_190
  let c0_i32_194 : BitVec 32 := 0#32
  ![v264.toNat, 0]
abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/- The mesh of eight devices and where each step of the kernel points: the device a signal or a transfer names,
   the row block a slice starts at. The kernel computes each as a chain of 32-bit operations on its device id; here
   each chain is given its plain value, and the one device id is the only thing it depends on. -/
module

public import proofs.«01_k».proof.Proof.Gen.KernelIdeal

@[expose] public section

noncomputable section

namespace Cert.RowMix

open Cert.KernelIdeal Cert.KernelIdeal.Gen
open Idealize.ShloMosaic

/-- The device `d` places after `c` on the ring of eight. -/
abbrev up (c d : Fin 8) : Dev nD := c + d
/-- The device `d` places before `c` on the ring of eight. -/
abbrev down (c d : Fin 8) : Dev nD := c - d

theorem up_down (c d : Fin 8) : up (down c d) d = c := by revert c d; decide
theorem down_up (c d : Fin 8) : down (up c d) d = c := by revert c d; decide
theorem up_neg (c d : Fin 8) : up (up c d) (-d) = c := by revert c d; decide
theorem up_injective (d : Fin 8) {a b : Fin 8} (h : up a d = up b d) : a = b := by rw [← down_up a d, h, down_up]

/-- Going up the ring by `d` places is a bijection of the devices. -/
def shift (d : Fin 8) : Dev nD ≃ Dev nD := ⟨fun c => up c d, fun c => down c d, fun c => down_up c d, fun c => up_down c d⟩

/-- The devices the seven signals name. -/
theorem signal1 (c : Dev nD) : (⟨k0_dev1 c, k0_dev1_lt c⟩ : Dev nD) = up c 1 := by revert c; decide +kernel
theorem signal2 (c : Dev nD) : (⟨k0_dev2 c, k0_dev2_lt c⟩ : Dev nD) = up c 2 := by revert c; decide +kernel
theorem signal3 (c : Dev nD) : (⟨k0_dev3 c, k0_dev3_lt c⟩ : Dev nD) = up c 3 := by revert c; decide +kernel
theorem signal4 (c : Dev nD) : (⟨k0_dev4 c, k0_dev4_lt c⟩ : Dev nD) = up c 4 := by revert c; decide +kernel
theorem signal5 (c : Dev nD) : (⟨k0_dev5 c, k0_dev5_lt c⟩ : Dev nD) = up c 5 := by revert c; decide +kernel
theorem signal6 (c : Dev nD) : (⟨k0_dev6 c, k0_dev6_lt c⟩ : Dev nD) = up c 6 := by revert c; decide +kernel
theorem signal7 (c : Dev nD) : (⟨k0_dev7 c, k0_dev7_lt c⟩ : Dev nD) = up c 7 := by revert c; decide +kernel

/-- The devices the seven remote copies name. -/
theorem target1 (c : Dev nD) : (⟨k0_dev8 c, k0_dev8_lt c⟩ : Dev nD) = up c 1 := by revert c; decide +kernel
theorem target2 (c : Dev nD) : (⟨k0_dev9 c, k0_dev9_lt c⟩ : Dev nD) = up c 2 := by revert c; decide +kernel
theorem target3 (c : Dev nD) : (⟨k0_dev10 c, k0_dev10_lt c⟩ : Dev nD) = up c 3 := by revert c; decide +kernel
theorem target4 (c : Dev nD) : (⟨k0_dev11 c, k0_dev11_lt c⟩ : Dev nD) = up c 4 := by revert c; decide +kernel
theorem target5 (c : Dev nD) : (⟨k0_dev12 c, k0_dev12_lt c⟩ : Dev nD) = up c 5 := by revert c; decide +kernel
theorem target6 (c : Dev nD) : (⟨k0_dev13 c, k0_dev13_lt c⟩ : Dev nD) = up c 6 := by revert c; decide +kernel
theorem target7 (c : Dev nD) : (⟨k0_dev14 c, k0_dev14_lt c⟩ : Dev nD) = up c 7 := by revert c; decide +kernel

/-- Remote copy `r + 1` reads the row block of the device it names. -/
theorem sendRows (c : Dev nD) (r : Fin 7) : k0_off1 c (BitVec.ofNat 32 (1 + r.val)) = ![128 * (up c r.succ).val, 0] := by
  revert c r; decide +kernel

/-- Copy `r` of the second operand reads the row block of the device `r` places before. -/
theorem weightRows (c : Dev nD) (r : Fin 8) : k0_off3 c (BitVec.ofNat 32 r.val) = ![128 * (down c r).val, 0] := by
  revert c r; decide +kernel

end Cert.RowMix

end
-- ==== Proof.Blocks.lean ====
/- The buffers of the kernel and the blocks it works on: row blocks of 128 rows of the two operands' copies, and the
   eight slots of the landing buffer. A block is OWNED at the values read through it (`owns`); a whole buffer is its
   eight blocks, and back. A load through a rectangle of a buffer reads the block there and a store replaces it. -/
module

public import proofs.«01_k».proof.Proof.Mesh
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state beside the pipeline's: cells with up to eight named duties per round. -/
abbrev UB : Type := URounds (GSem nD τ sig) (Fin 8)
abbrev UU : Type := UR sig nD τ × UB

local notation "𝕄" => MT nD τ sig Unit (Elt F) ℕ UU ℕ

/-! ## The buffers -/

abbrev xM : Memref sig .tc .hbm S1024x128 .f32 := Memref.whole main_arg0
abbrev wM : Memref sig .tc .hbm S1024x1024 .f32 := Memref.whole main_arg1
abbrev oM : Memref sig .tc .vmem S128x1024 .f32 := Memref.whole cc0_stg0_0
abbrev xvM : Memref sig .tc .vmem S1024x128 .f32 := Memref.whole cc0_scratch0
abbrev wvM : Memref sig .tc .vmem S1024x1024 .f32 := Memref.whole cc0_scratch1
abbrev xbM : Memref sig .tc .vmem S1024x128 .bf16 := Memref.whole cc0_scratch2
abbrev gM : Memref sig .tc .vmem S8x128x128 .bf16 := Memref.whole cc0_scratch3
abbrev wbM : Memref sig .tc .vmem S1024x1024 .bf16 := Memref.whole cc0_scratch4

/-! ## The blocks -/

theorem rowsX_inb (b : Fin 8) (a : Fin 2) : (![128 * b.val, 0] : Fin 2 → ℕ) a + S128x128.size a ≤ S1024x128.size a := by
  revert b a; decide
theorem rowsW_inb (b : Fin 8) (a : Fin 2) : (![128 * b.val, 0] : Fin 2 → ℕ) a + S128x1024.size a ≤ S1024x1024.size a := by
  revert b a; decide
theorem slot_inb (d : Fin 8) (a : Fin 3) : (![d.val, 0, 0] : Fin 3 → ℕ) a + S1x128x128.size a ≤ S8x128x128.size a := by
  revert d a; decide

/-- Row block `b` of a 1024 × 128 buffer, -/
abbrev rowsX (b : Fin 8) : Rect S1024x128 := Rect.unit (s := S1024x128) ![128 * b.val, 0] S128x128.size (rowsX_inb b)
/-- of a 1024 × 1024 buffer, -/
abbrev rowsW (b : Fin 8) : Rect S1024x1024 := Rect.unit (s := S1024x1024) ![128 * b.val, 0] S128x1024.size (rowsW_inb b)
/-- and slot `d` of the landing buffer. -/
abbrev slot (d : Fin 8) : Rect S8x128x128 := Rect.unit (s := S8x128x128) ![d.val, 0, 0] S1x128x128.size (slot_inb d)

abbrev blkX (b : Fin 8) : Memref sig .tc .vmem S128x128 .bf16 := xbM.slice (rowsX b) (fun _ => rfl)
abbrev blkW (b : Fin 8) : Memref sig .tc .hbm S128x1024 .f32 := wM.slice (rowsW b) (fun _ => rfl)
abbrev blkV (b : Fin 8) : Memref sig .tc .vmem S128x1024 .f32 := wvM.slice (rowsW b) (fun _ => rfl)
abbrev blkB (b : Fin 8) : Memref sig .tc .vmem S128x1024 .bf16 := wbM.slice (rowsW b) (fun _ => rfl)
abbrev blkG (d : Fin 8) : Memref sig .tc .vmem S1x128x128 .bf16 := gM.slice (slot d) (fun _ => rfl)
/-- A slot as the transfers name it, without its leading axis of one. -/
abbrev flatG (d : Fin 8) : Memref sig .tc .vmem S128x128 .bf16 := (blkG d).squeeze S128x128 squeezes_S1x128x128_S128x128

theorem rowsX_disjoint (b b' : Fin 8) (h : b ≠ b') : Disjoint (rowsX b).set (rowsX b').set :=
  Ring.lead_disjoint (s := S1024x128) (0 : Fin 2) 128 (fun b : Fin 8 => ![128 * b.val, 0]) S128x128.size rowsX_inb (fun _ => rfl) rfl b b' h
theorem rowsW_disjoint (b b' : Fin 8) (h : b ≠ b') : Disjoint (rowsW b).set (rowsW b').set :=
  Ring.lead_disjoint (s := S1024x1024) (0 : Fin 2) 128 (fun b : Fin 8 => ![128 * b.val, 0]) S128x1024.size rowsW_inb (fun _ => rfl) rfl b b' h
theorem slot_disjoint (d d' : Fin 8) (h : d ≠ d') : Disjoint (slot d).set (slot d').set :=
  Ring.lead_disjoint (s := S8x128x128) (0 : Fin 3) 1 (fun d : Fin 8 => ![d.val, 0, 0]) S1x128x128.size slot_inb (fun d => (Nat.one_mul d.val).symm) rfl d d' h

theorem rowsX_cover : (Finset.univ : Finset (Fin 8)).biUnion (fun b => (rowsX b).set) = Finset.univ :=
  Ring.lead_cover (s := S1024x128) (0 : Fin 2) 128 (fun b : Fin 8 => ![128 * b.val, 0]) S128x128.size rowsX_inb (fun _ => rfl)
    (by decide) rfl (by decide) rfl
theorem rowsW_cover : (Finset.univ : Finset (Fin 8)).biUnion (fun b => (rowsW b).set) = Finset.univ :=
  Ring.lead_cover (s := S1024x1024) (0 : Fin 2) 128 (fun b : Fin 8 => ![128 * b.val, 0]) S128x1024.size rowsW_inb (fun _ => rfl)
    (by decide) rfl (by decide) rfl
theorem slot_cover : (Finset.univ : Finset (Fin 8)).biUnion (fun d => (slot d).set) = Finset.univ :=
  Ring.lead_cover (s := S8x128x128) (0 : Fin 3) 1 (fun d : Fin 8 => ![d.val, 0, 0]) S1x128x128.size slot_inb (fun d => (Nat.one_mul d.val).symm)
    (by decide) rfl (by decide) rfl

/-! ## A whole buffer and its blocks -/

section Whole

variable (c : Dev nD) (b : Ref sig .tc) (r : Fin 8 → Rect b.ty.shape) (hr : ∀ t a, (r t).stride a = 1)
  (hd : ∀ t t', t ≠ t' → Disjoint (r t).set (r t').set)
  (hcov : (Finset.univ : Finset (Fin 8)).biUnion (fun t => (r t).set) = Finset.univ)
include hd hcov

omit [FloatOps F] in
/-- A buffer at contents `X` is its blocks, each at its part of `X`; -/
theorem cut (X : b.ty.Contents (Elt F)) :
    (((c : Thread nD τ).loc b) ↦{fullShare} X : sProp 𝕄)
      ⊢ bigSep Finset.univ fun t => owns (c : Thread nD τ) ((Memref.whole b).slice (r t) (hr t)) fullShare (fun j => X ((r t).emb j)) := by
  rw [← owns_whole (c : Thread nD τ) b fullShare X]
  exact owns_rects (c : Thread nD τ) (Memref.whole b) fullShare r hr hd hcov X

omit [FloatOps F] in
/-- a buffer at some contents is its blocks at some values; -/
theorem cut_some :
    iprop(∃ X, (((c : Thread nD τ).loc b) ↦{fullShare} X) : sProp 𝕄)
      ⊢ bigSep Finset.univ fun t => iprop(∃ Y, owns (c : Thread nD τ) ((Memref.whole b).slice (r t) (hr t)) fullShare Y) := by
  have h (t : Fin 8) (Y : (r t).shape.Idx → Elt F b.ty.elt) :
      (owns (c : Thread nD τ) ((Memref.whole b).slice (r t) (hr t)) fullShare Y : sProp 𝕄)
        ⊢ iprop(∃ Y, owns (c : Thread nD τ) ((Memref.whole b).slice (r t) (hr t)) fullShare Y) := by
    iintro H; iexists Y; iexact H
  iintro ⟨%X, H⟩
  iapply ((cut (F := F) c b r hr hd hcov X).trans (bigSep_mono fun t _ => h t _))
  iexact H

/-- the blocks of `X` together are the buffer at `X`; -/
theorem paste (X : b.ty.Contents (Elt F)) :
    (bigSep Finset.univ fun t => owns (c : Thread nD τ) ((Memref.whole b).slice (r t) (hr t)) fullShare (fun j => X ((r t).emb j)))
      ⊢ (((c : Thread nD τ).loc b) ↦{fullShare} X : sProp 𝕄) := by
  rw [← owns_whole (c : Thread nD τ) b fullShare X]
  exact owns_of_rects (c : Thread nD τ) (Memref.whole b) fullShare r hr hd hcov X

/-- and blocks at whatever values are the buffer at some contents. -/
theorem paste_some (Y : (t : Fin 8) → (r t).shape.Idx → Elt F b.ty.elt) :
    (bigSep Finset.univ fun t => owns (c : Thread nD τ) ((Memref.whole b).slice (r t) (hr t)) fullShare (Y t))
      ⊢ (iprop(∃ X, (((c : Thread nD τ).loc b) ↦{fullShare} X)) : sProp 𝕄) := by
  have h : (fun t => (Y t)) = fun t j => Rect.glue r hcov Y ((r t).emb j) :=
    funext fun t => funext fun j => (Rect.glue_emb r hcov hd Y t j).symm
  rw [show (fun t => (owns (c : Thread nD τ) ((Memref.whole b).slice (r t) (hr t)) fullShare (Y t) : sProp 𝕄))
      = fun t => owns (c : Thread nD τ) ((Memref.whole b).slice (r t) (hr t)) fullShare (fun j => Rect.glue r hcov Y ((r t).emb j)) from
    funext fun t => by rw [← congrFun h t]]
  iintro H
  iexists Rect.glue r hcov Y
  iapply (paste c b r hr hd hcov (Rect.glue r hcov Y))
  iexact H

end Whole

/-! ## A slot with and without its leading axis -/

omit [FloatOps F] in
/-- Owning a slot as the transfers name it is owning it as the loads do, the values re-indexed in row-major order. -/
theorem owns_flat (c : Dev nD) (d : Fin 8) (v : S128x128.Idx → Elt F .bf16) :
    (owns (c : Thread nD τ) (flatG d) fullShare v : sProp 𝕄)
      ⊢ owns (c : Thread nD τ) (blkG d) fullShare (shapeCast S1x128x128 v shapeCasts_S128x128_S1x128x128) := by
  unfold owns
  iintro ⟨%f, %hf, H⟩
  iexists f
  isplitr
  · ipureintro
    funext i
    show (blkG d).view.read (Elt F) f i = v (Shape.reshapeEquiv shapeCasts_S128x128_S1x128x128 i)
    rw [← hf]
    show _ = (blkG d).view.read (Elt F) f (Shape.reshapeEquiv _ (Shape.reshapeEquiv _ i))
    rw [Shape.reshapeEquiv_reshapeEquiv, Shape.reshapeEquiv_self]
  · rw [show (flatG d).view.set = (blkG d).view.set from View.set_reshape _ _]
    iexact H

/-! ## Loads and stores of blocks -/

section Access

variable (𝒱 : Variants) (c : Dev nD) {cs : CoreSpace} {s : Shape} {e : EltTy} {α : Type}

/-- A load through rectangle `r` of a buffer whose block there is owned at `X` reads `X`. -/
theorem load_block {m : Memref sig .tc cs s e} {r : Rect s} (hr : ∀ a, r.stride a = 1) {hl : m.view.LoadsAt r.toLoadRect}
    {k : (r.shape.Idx → Elt F e) → Prog (TpuEff nD τ sig (Elt F) Λ₀ .tc) α} {X : r.shape.Idx → Elt F e} {Q : α → sProp 𝕄} :
    (owns (c : Thread nD τ) (m.slice r hr) fullShare X : sProp 𝕄)
      ⊢ iprop((owns (c : Thread nD τ) (m.slice r hr) fullShare X -∗ wp frame (wpE (defs₀ (F := F)) 𝒱 (c : Thread nD τ) none) Set.univ (k X) Q)
        -∗ wp frame (wpE (defs₀ (F := F)) 𝒱 (c : Thread nD τ) none) Set.univ (.op (.load m r.toLoadRect hl) k) Q) := by
  unfold owns
  iintro ⟨%f, %hf, H⟩ Hk
  iapply (wp_load_rect 𝒱 (c : Thread nD τ) none Set.univ (m := m) (r := r) (hl := hl) (Finset.Subset.refl _)) $$ H
  iintro H
  rw [show (m.access r).read (Elt F) f = X from hf]
  iapply Hk
  iexists f
  isplitr
  · ipureintro; exact hf
  · iexact H

/-- An unmasked store through rectangle `r` of a buffer whose block there is owned leaves it owned at what was stored. -/
theorem store_block {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    iprop(∃ X, owns (c : Thread nD τ) (m.slice r hr) fullShare X : sProp 𝕄)
      ⊢ iprop((owns (c : Thread nD τ) (m.slice r hr) fullShare w -∗ wp frame (wpE (defs₀ (F := F)) 𝒱 (c : Thread nD τ) none) Set.univ (k ⟨⟩) Q)
        -∗ wp frame (wpE (defs₀ (F := F)) 𝒱 (c : Thread nD τ) none) Set.univ (.op (.store m r w Finset.univ hx hm) k) Q) := by
  unfold owns
  iintro ⟨%X, %f, %hf, H⟩ Hk
  iapply (wp_store 𝒱 (c : Thread nD τ) none Set.univ (m := m) (r := r) (w := w) (hx := hx) (Mk := Finset.univ)
    (S := (m.slice r hr).view.set) (Finset.Subset.refl _)) $$ H
  iintro H
  iapply Hk
  iexists _
  isplitr
  swap
  · iexact H
  · ipureintro; exact View.read_write_univ _ _

end Access

end Cert.RowMix

end
-- ==== Proof.Contents.lean ====
/- What the buffers hold, as functions of the two arguments at launch, for float values of any kind: the rounded first
   operand and its row blocks, the slab a slot of the landing buffer receives, the row block of the second operand each
   step of the accumulation multiplies by, and the accumulated result. -/
module

public import proofs.«01_k».proof.Proof.Blocks
public import proofs.«01_k».proof.Proof.Gen.KernelIdeal.Skeleton

@[expose] public section

noncomputable section

namespace Cert.RowMix

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Device `c`'s columns of the first operand, -/
def xIn (c : Dev nD) : S1024x128.Idx → Elt F .f32 := m ((c : Thread nD τ).loc main_arg0)
/-- its copy of the second operand, -/
def wIn (c : Dev nD) : S1024x1024.Idx → Elt F .f32 := m ((c : Thread nD τ).loc main_arg1)
/-- its columns rounded to bf16, -/
def xLow (c : Dev nD) : S1024x128.Idx → Elt F .bf16 := k0_pay1 (xIn m c)
/-- and row block `b` of those: what device `b` needs of them. -/
def part (c : Dev nD) (b : Fin 8) : S128x128.Idx → Elt F .bf16 := fun j => xLow m c ((rowsX b).emb j)

/-- What slot `d` of device `c` receives: the rows of `c` in the columns of the device `d` places before. -/
def slab (c : Dev nD) (d : Fin 8) : S1x128x128.Idx → Elt F .bf16 := k0_pay2 (part m (down c d) c)
/-- The rows of the second operand those columns meet, -/
def wgt (c : Dev nD) (d : Fin 8) : S128x1024.Idx → Elt F .f32 := fun j => wIn m c ((rowsW (down c d)).emb j)
/-- rounded to bf16. -/
def wgtLow (c : Dev nD) (d : Fin 8) : S128x1024.Idx → Elt F .bf16 := k0_pay3 (wgt m c d)

/-- The accumulation's first product, -/
def sum0 (c : Dev nD) : S128x1024.Idx → Elt F .f32 := k0_pay4 (slab m c 0) (wgtLow m c 0)
/-- its step `d`: the product of slot `d` and its rows of the second operand added to `v`, -/
def addStep (c : Dev nD) (d : Fin 8) (v : S128x1024.Idx → Elt F .f32) : S128x1024.Idx → Elt F .f32 :=
  k0_pay9 (slab m c d) (wgtLow m c d) v
/-- and the result after the seven steps. -/
def result (c : Dev nD) : S128x1024.Idx → Elt F .f32 :=
  addStep m c 7 (addStep m c 6 (addStep m c 5 (addStep m c 4 (addStep m c 3 (addStep m c 2 (addStep m c 1 (sum0 m c)))))))

end Cert.RowMix

end
-- ==== Proof.Protocol.lean ====
/- The protocol of the kernel's semaphores. Each device has one cell per semaphore, and each cell one round. Its barrier
   cell is paid one unit by every other device, each handing over the slot of its landing buffer that the barrier's owner
   will write. Every other cell is a transfer's: one duty of the transfer's credit, paid when the transfer lands, whose
   payload is what its waiter gets — a landed block, a source given back, or both. -/
module

public import proofs.«01_k».proof.Proof.Contents

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb UB (MT nD τ sig Unit (Elt F) ℕ UU ℕ) := embR

variable (m : (ℓ : Loc nD τ sig) → Buf (Elt F) ℓ)

/-! ## The cells -/

/-- The runtime's barrier semaphore, and the transfers' semaphores: of the remote copy by `d` places at its source and
    at its target, of the copy of the first operand, of copy `e` of the second. -/
abbrev barS : Sem sig := (SemArray.scalar (sig.barrier 0 rfl) : Sems sig S_).sem
abbrev sendS (d : Fin 8) : DmaSem sig := ⟨1 + d.val, by have := d.isLt; show 1 + d.val < 26; omega⟩
abbrev recvS (d : Fin 8) : DmaSem sig := ⟨9 + d.val, by have := d.isLt; show 9 + d.val < 26; omega⟩
abbrev xS : DmaSem sig := ⟨17, by decide⟩
abbrev wS (e : Fin 8) : DmaSem sig := ⟨18 + e.val, by have := e.isLt; show 18 + e.val < 26; omega⟩

abbrev barCell (c : Dev nD) : GSem nD τ sig := ((c : Thread nD τ), .reg barS)
abbrev dmaCell (c : Dev nD) (q : DmaSem sig) : GSem nD τ sig := ((c : Thread nD τ), .dma q)

/-- The credit of a block of the first operand, of the whole of it, and of a row block of the second. -/
abbrev NB : ℕ := RefSig.tileCredit S128x128 .bf16
abbrev NX : ℕ := RefSig.tileCredit S1024x128 .f32
abbrev NW : ℕ := RefSig.tileCredit S128x1024 .f32

/-! ## The schedule -/

/-- What a semaphore is for. -/
inductive Role where
  | bar
  | send (d : Fin 8)
  | recv (d : Fin 8)
  | xcopy
  | wcopy (e : Fin 8)
  | idle
deriving DecidableEq

/-- The role of each transfer semaphore; the first of the send and of the receive semaphores is never used. -/
def roleOf (q : Fin 26) : Role :=
  if h : 2 ≤ q.val ∧ q.val < 9 then .send ⟨q.val - 1, by omega⟩
  else if h : 10 ≤ q.val ∧ q.val < 17 then .recv ⟨q.val - 9, by omega⟩
  else if q.val = 17 then .xcopy
  else if h : 18 ≤ q.val then .wcopy ⟨q.val - 18, by omega⟩
  else .idle

def role : SemLoc sig → Role
  | .reg s => if s = barS then .bar else .idle
  | .dma q => roleOf q

theorem role_bar : role (.reg barS) = .bar := by decide
theorem role_send : ∀ {d : Fin 8}, d ≠ 0 → role (.dma (sendS d)) = .send d := by decide
theorem role_recv : ∀ {d : Fin 8}, d ≠ 0 → role (.dma (recvS d)) = .recv d := by decide
theorem role_x : role (.dma xS) = .xcopy := by decide
theorem role_w : ∀ e : Fin 8, role (.dma (wS e)) = .wcopy e := by decide

/-- The duties, their amounts and payloads by role: -/
def dutiesOf : Role → Finset (Fin 8)
  | .bar => Finset.univ.erase 0
  | .idle => ∅
  | _ => {0}
def amountOf : Role → ℕ
  | .bar => 1
  | .send _ => NB
  | .recv _ => NB
  | .xcopy => NX
  | .wcopy _ => NW
  | .idle => 1
/-- the barrier's duty `e` hands over slot `e` of the device `e` places up, at any contents; -/
def barPay (c : Dev nD) (e : Fin 8) : sProp 𝕄 := iprop(∃ Y, owns (up c e : Thread nD τ) (blkG e) fullShare Y)
/-- a send's gives the source block back; -/
def sendPay (c : Dev nD) (d : Fin 8) : sProp 𝕄 := owns (c : Thread nD τ) (blkX (up c d)) fullShare (part m c (up c d))
/-- a receive's hands over the landed slab; -/
def recvPay (c : Dev nD) (d : Fin 8) : sProp 𝕄 := owns (c : Thread nD τ) (blkG d) fullShare (slab m c d)
/-- a local copy's both its ends, at the same values. -/
def xPay (c : Dev nD) : sProp 𝕄 :=
  iprop(owns (c : Thread nD τ) xvM fullShare (xIn m c) ∗ owns (c : Thread nD τ) xM fullShare (xIn m c))
def wPay (c : Dev nD) (e : Fin 8) : sProp 𝕄 :=
  iprop(owns (c : Thread nD τ) (blkV e) fullShare (wgt m c e) ∗ owns (c : Thread nD τ) (blkW (down c e)) fullShare (wgt m c e))

def payOf (c : Dev nD) (d : Fin 8) : Role → sProp 𝕄
  | .bar => barPay c d
  | .send e => sendPay m c e
  | .recv e => recvPay m c e
  | .xcopy => xPay m c
  | .wcopy e => wPay m c e
  | .idle => iprop(emp)

theorem amountOf_pos (ρ : Role) : 0 < amountOf ρ := by
  cases ρ
  case bar => exact Nat.one_pos
  case send => exact RefSig.tileCredit_pos _ _ (by decide)
  case recv => exact RefSig.tileCredit_pos _ _ (by decide)
  case xcopy => exact RefSig.tileCredit_pos _ _ (by decide)
  case wcopy => exact RefSig.tileCredit_pos _ _ (by decide)
  case idle => exact Nat.one_pos

def sched : Rounds.Schedule (GSem nD τ sig) (Fin 8) 𝕄 where
  duties g r := if r = 0 ∧ g.1.2 = .tc then dutiesOf (role g.2) else ∅
  unitless _ := False
  amount g _ _ := amountOf (role g.2)
  payload g _ d := payOf m g.1.1 d (role g.2)
  amount_pos g _ _ _ := amountOf_pos _

instance payOf_storable (c : Dev nD) (d : Fin 8) (ρ : Role) : BI.Storable (upEmb : UEmb _ 𝕄) (payOf m c d ρ) := by
  cases ρ <;> (unfold payOf; try unfold barPay; try unfold sendPay; try unfold recvPay; try unfold xPay; try unfold wPay) <;> infer_instance

instance sched_payload_storable (g : GSem nD τ sig) (r : ℕ) (d : Fin 8) :
    BI.Storable (upEmb : UEmb _ 𝕄) ((sched (F := F) m).payload g r d) := payOf_storable m _ _ _

theorem duties_eq (c : Dev nD) {sm : SemLoc sig} {ρ : Role} (h : role sm = ρ) :
    (sched (F := F) m).duties ((c : Thread nD τ), sm) 0 = dutiesOf ρ := by
  subst h; exact if_pos (c := (0 : ℕ) = 0 ∧ (c : Thread nD τ).2 = .tc) (e := ∅) ⟨rfl, rfl⟩
theorem duties_later (g : GSem nD τ sig) : ∀ r, 1 ≤ r → (sched (F := F) m).duties g r = ∅ :=
  fun r hr => if_neg fun h => by omega
theorem duties_idle (c : Dev nD) {sm : SemLoc sig} (h : role sm = .idle) :
    ∀ r, 0 ≤ r → (sched (F := F) m).duties ((c : Thread nD τ), sm) r = ∅ := fun r _ => by
  show (if r = 0 ∧ _ then dutiesOf (role sm) else ∅) = ∅
  rw [h]; split <;> rfl
theorem amount_eq (c : Dev nD) {sm : SemLoc sig} {ρ : Role} (h : role sm = ρ) (r : ℕ) (d : Fin 8) :
    (sched (F := F) m).amount ((c : Thread nD τ), sm) r d = amountOf ρ := by subst h; rfl
theorem payload_eq (c : Dev nD) {sm : SemLoc sig} {ρ : Role} (h : role sm = ρ) (r : ℕ) (d : Fin 8) :
    (sched (F := F) m).payload ((c : Thread nD τ), sm) r d = payOf m c d ρ := by subst h; rfl

/-- A round's units: as many duties as it has, at its role's amount. -/
theorem expect_eq (c : Dev nD) {sm : SemLoc sig} {ρ : Role} (h : role sm = ρ) :
    (sched (F := F) m).expect ((c : Thread nD τ), sm) 0 = (dutiesOf ρ).card * amountOf ρ := by
  unfold Schedule.expect Schedule.amountOf
  rw [duties_eq m c h, Finset.sum_congr rfl fun d _ => amount_eq m c h 0 d, Finset.sum_const, smul_eq_mul]

/-- What the round of a transfer's cell hands over, -/
theorem rest_eq (c : Dev nD) {sm : SemLoc sig} {ρ : Role} (h : role sm = ρ) (h0 : dutiesOf ρ = {0}) :
    bigSep ((sched (F := F) m).duties ((c : Thread nD τ), sm) 0 \ ∅) (fun d => (sched (F := F) m).payload ((c : Thread nD τ), sm) 0 d) = payOf m c 0 ρ := by
  rw [Finset.sdiff_empty, duties_eq m c h, h0, bigSep_singleton, payload_eq m c h]
/-- and what the barrier's does: the seven slots the device will write. -/
theorem rest_bar (c : Dev nD) :
    bigSep ((sched (F := F) m).duties (barCell c) 0 \ ∅) (fun d => (sched (F := F) m).payload (barCell c) 0 d)
      = iprop(barPay c 1 ∗ barPay c 2 ∗ barPay c 3 ∗ barPay c 4 ∗ barPay c 5 ∗ barPay c 6 ∗ barPay c 7) := by
  rw [Finset.sdiff_empty, duties_eq m c role_bar,
    show (fun d => (sched (F := F) m).payload (barCell c) 0 d) = fun d => barPay c d from funext fun d => payload_eq m c role_bar 0 d,
    bigSep_eq_bigSepL_of_eq [1, 2, 3, 4, 5, 6, 7] (by decide) (by decide)]
  rfl

/-! ## What each device owes at launch; the levels -/

/-- The units on a list of cells. -/
def owing : List (GSem nD τ sig × ℕ) → CellTallies nD τ sig Unit
  | [] => 0
  | x :: l => owing l + tallyAt x.1 () x.2

/-- A device's debts: a unit on each other device's barrier cell, and its block's credit on the cell there that awaits
    the block. -/
def barDue (c : Dev nD) (d : Fin 8) : GSem nD τ sig × ℕ := (barCell (up c d), 1)
def recvDue (c : Dev nD) (d : Fin 8) : GSem nD τ sig × ℕ := (dmaCell (up c d) (recvS d), NB)
def recvDues (c : Dev nD) : List (GSem nD τ sig × ℕ) :=
  [recvDue c 1, recvDue c 2, recvDue c 3, recvDue c 4, recvDue c 5, recvDue c 6, recvDue c 7]
def dues (c : Dev nD) : List (GSem nD τ sig × ℕ) :=
  barDue c 1 :: barDue c 2 :: barDue c 3 :: barDue c 4 :: barDue c 5 :: barDue c 6 :: barDue c 7 :: recvDues c

def L (g : GSem nD τ sig) : Finset Unit := if g.1.2 = .tc then {()} else ∅
/-- The barrier's cells at level 1, the receives' at 2, every other at 0. -/
def level : Role → ℕ
  | .bar => 1
  | .recv _ => 2
  | _ => 0
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl

theorem owing_pos {l : List (GSem nD τ sig × ℕ)} {g : GSem nD τ sig} {u : Unit} (h : 0 < owing l g u) : ∃ x ∈ l, g = x.1 := by
  induction l with
  | nil => exact absurd h (Nat.lt_irrefl 0)
  | cons x l ih =>
    unfold owing at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-- A device may wait on a cell while every cell it owes is a TensorCore's at a higher level. -/
theorem mayWait_of (c : Dev nD) (sm : SemLoc sig) (l : List (GSem nD τ sig × ℕ))
    (hl : ∀ x ∈ l, x.1.1.2 = .tc ∧ level (role sm) < level (role x.1.2)) :
    (levAts L lv : sProp 𝕄) ⊢ MayWait (c : Thread nD τ) sm () (owing l) :=
  MayOwe.of_cut (L := L) (lev := lv) (level (role sm)) (fun p hp => by rw [Finset.mem_singleton.mp hp, L_tc]; exact Finset.mem_singleton_self _)
    (fun g u hg => by
      obtain ⟨x, hx, rfl⟩ := owing_pos hg
      unfold L; rw [if_pos (hl x hx).1]; exact Finset.mem_singleton_self _)
    (fun p hp => by rw [Finset.mem_singleton.mp hp]; exact Nat.le_refl _)
    (fun g u hg => by
      obtain ⟨x, hx, rfl⟩ := owing_pos hg
      exact (hl x hx).2)

theorem level_recvDue (c : Dev nD) {d : Fin 8} (hd : d ≠ 0) :
    (recvDue c d).1.1.2 = .tc ∧ level (role (recvDue c d).1.2) = 2 := ⟨rfl, congrArg level (role_recv hd)⟩
theorem level_barDue (c : Dev nD) (d : Fin 8) :
    (barDue c d).1.1.2 = .tc ∧ level (role (barDue c d).1.2) = 1 := ⟨rfl, congrArg level role_bar⟩

theorem mem_recvDues {c : Dev nD} {x : GSem nD τ sig × ℕ} (hx : x ∈ recvDues c) : ∃ d : Fin 8, d ≠ 0 ∧ x = recvDue c d := by
  simp only [recvDues, List.mem_cons, List.not_mem_nil, or_false] at hx
  rcases hx with h | h | h | h | h | h | h <;> exact ⟨_, by decide, h⟩
theorem mem_dues {c : Dev nD} {x : GSem nD τ sig × ℕ} (hx : x ∈ dues c) :
    (∃ d : Fin 8, x = barDue c d) ∨ ∃ d : Fin 8, d ≠ 0 ∧ x = recvDue c d := by
  simp only [dues, List.mem_cons] at hx
  rcases hx with h | h | h | h | h | h | h | h
  iterate 7 exact .inl ⟨_, h⟩
  exact .inr (mem_recvDues h)

theorem level_recvDues (c : Dev nD) : ∀ x ∈ recvDues c, x.1.1.2 = .tc ∧ level (role x.1.2) = 2 := fun x hx => by
  obtain ⟨d, hd, rfl⟩ := mem_recvDues hx; exact level_recvDue c hd
theorem level_dues (c : Dev nD) : ∀ x ∈ dues c, x.1.1.2 = .tc ∧ 0 < level (role x.1.2) := fun x hx => by
  rcases mem_dues hx with ⟨d, rfl⟩ | ⟨d, hd, rfl⟩
  · exact ⟨(level_barDue c d).1, (level_barDue c d).2 ▸ by decide⟩
  · exact ⟨(level_recvDue c hd).1, (level_recvDue c hd).2 ▸ by decide⟩

end Cert.RowMix

end
-- ==== Proof.Steps.lean ====
/- The kernel's statements, one rule for each kind, stated for any device and any of the blocks: a signal, the two kinds
   of local copy, the wait on the barrier, a remote copy, the wait for a transfer, and the two sequences the accumulation
   repeats. Offsets, semaphores and target devices appear as the program prints them, with the equation that names them. -/
module

public import proofs.«01_k».proof.Proof.Protocol

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` running program `p` to the postcondition `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The cells by number: the barrier's takes the place of transfer semaphore 0, which is the pipeline's. -/
def cellSem (k : Fin 26) : SemLoc sig := if k = 0 then .reg barS else .dma k
def kcell (p : Dev nD × Fin 26) : GSem nD τ sig := ((p.1 : Thread nD τ), cellSem p.2)

theorem kcell_bar (c : Dev nD) : kcell (c, 0) = barCell c := rfl
theorem kcell_dma (c : Dev nD) {q : DmaSem sig} (h : q ≠ (0 : Fin 26)) : kcell (c, q) = dmaCell c q := by
  unfold kcell cellSem; rw [if_neg h]

variable (K : Dev nD × Fin 26 → ℕ)

/-- The invariant of every device's every cell, and that its first round is reached. -/
def records : sProp 𝕄 :=
  iprop((bigSep Finset.univ fun p : Dev nD × Fin 26 => cellInv ER (sched m) (K p) (kcell p))
    ∗ bigSep Finset.univ fun p : Dev nD × Fin 26 => reached ER (kcell p) 0)

instance records_persistent : BI.Persistent (records m K) := by unfold records; infer_instance

theorem inv_mem (p : Dev nD × Fin 26) :
    (bigSep Finset.univ fun p : Dev nD × Fin 26 => cellInv ER (sched m) (K p) (kcell p) : sProp 𝕄) ⊢ cellInv ER (sched m) (K p) (kcell p) :=
  bigSep_elim (Finset.mem_univ p)
theorem reached_mem (p : Dev nD × Fin 26) :
    (bigSep Finset.univ fun p : Dev nD × Fin 26 => reached ER (kcell p) 0 : sProp 𝕄) ⊢ reached ER (kcell p) 0 :=
  bigSep_elim (Finset.mem_univ p)

theorem inv_at (p : Dev nD × Fin 26) : records m K ⊢ cellInv ER (sched m) (K p) (kcell p) := by
  unfold records; iintro ⟨#HI, #HR⟩; iapply (inv_mem m K p); iexact HI
theorem reached_at (p : Dev nD × Fin 26) : records m K ⊢ (reached ER (kcell p) 0 : sProp 𝕄) := by
  unfold records; iintro ⟨#HI, #HR⟩; iapply (reached_mem (F := F) p); iexact HR

theorem inv_bar (c : Dev nD) : records m K ⊢ cellInv ER (sched m) (K (c, 0)) (barCell c) := inv_at m K (c, 0)
theorem reached_bar (c : Dev nD) : records m K ⊢ (reached ER (barCell c) 0 : sProp 𝕄) := reached_at m K (c, 0)
theorem inv_dma (c : Dev nD) {q : DmaSem sig} (h : q ≠ (0 : Fin 26)) : records m K ⊢ cellInv ER (sched m) (K (c, q)) (dmaCell c q) := by
  rw [← kcell_dma c h]; exact inv_at m K (c, q)
theorem reached_dma (c : Dev nD) {q : DmaSem sig} (h : q ≠ (0 : Fin 26)) : records m K ⊢ (reached ER (dmaCell c q) 0 : sProp 𝕄) := by
  rw [← kcell_dma c h]; exact reached_at m K (c, q)

/-- A semaphore with a duty is not the pipeline's. -/
theorem ne_zero_of_role {q : DmaSem sig} {ρ : Role} (hρ : role (.dma q) = ρ) (h0 : dutiesOf ρ = {0}) : q ≠ (0 : Fin 26) := by
  rintro rfl
  rw [← hρ] at h0
  exact absurd h0 (by decide)

/-- The device's debts, whatever cells it has waited on. -/
def debts (c : Dev nD) (l : List (GSem nD τ sig × ℕ)) : sProp 𝕄 := iprop(∃ W, owes (c : Thread nD τ) (owing l) W)

/-! ## The barrier -/

/-- Signal number `d`: the debt paid, and slot `-d` handed to the device it signals. -/
theorem step_signal (c : Dev nD) (d : Fin 8) {e : Fin 8} (hd : e ≠ 0) (he : e = -d) {n : Dev nD} (hn : n = up c d) {z : ℤ} (hz : z = ((1 : ℕ) : ℤ))
    (l : List (GSem nD τ sig × ℕ)) {α : Type} {k : PUnit → Prog (TpuEff nD τ sig (Elt F) Λ₀ .tc) α} {Q : α → sProp 𝕄} :
    iprop(records m K ∗ debts c (barDue c d :: l) ∗ dutyTok ER (barCell (up c d)) 0 e ∗ ∃ Y, owns (c : Thread nD τ) (blkG e) fullShare Y)
      ⊢ iprop((debts c l -∗ runs c (k ⟨⟩) Q) -∗ runs c (.op (.semSignal (n, .tc) barS z) k) Q) := by
  subst hn hz
  unfold debts
  iintro ⟨#HK, ⟨%W, HO⟩, Ht, Hs⟩ Hk
  iapply (Rounds.wp_signal 𝒱₀ ER (sched m) (c : Thread nD τ) none (dst := (up c d : Thread nD τ)) (κ := K (up c d, 0))
      (d := e) (by rw [duties_eq m _ role_bar]; exact Finset.mem_erase.mpr ⟨hd, Finset.mem_univ _⟩)
      (amount_eq m (up c d) role_bar 0 e) () (owing l) rfl) $$ [HO Ht Hs]
  · isplitr; · iapply (inv_bar m K (up c d)); iexact HK
    isplitl [HO]; · iexact HO
    isplitl [Ht]; · iexact Ht
    isplitl [Hs]
    · rw [payload_eq m (up c d) role_bar 0 e]; unfold payOf barPay; rw [he, up_neg]; iexact Hs
    iapply (reached_bar m K (up c d)); iexact HK
  iintro HO
  iapply Hk
  iexists W; iexact HO

/-- The wait for the seven signals: the seven slots this device will write, and its barrier cell closed at zero. -/
theorem step_barrier (c : Dev nD) {z : ℤ} (hz : z = ((7 : ℕ) : ℤ)) (l : List (GSem nD τ sig × ℕ)) (hl : ∀ x ∈ l, x.1.1.2 = .tc ∧ 1 < level (role x.1.2))
    {α : Type} {k : PUnit → Prog (TpuEff nD τ sig (Elt F) Λ₀ .tc) α} {Q : α → sProp 𝕄} :
    iprop(records m K ∗ levAts L lv ∗ cred (tallyAt (barCell c) () 7) ∗ debts c l ∗ atPos ER (barCell c) 0 ∅ 0)
      ⊢ iprop(((debts c l ∗ semVal (barCell c) 0
            ∗ barPay c 1 ∗ barPay c 2 ∗ barPay c 3 ∗ barPay c 4 ∗ barPay c 5 ∗ barPay c 6 ∗ barPay c 7) -∗ runs c (k ⟨⟩) Q)
          -∗ runs c (.op (.semWait barS z) k) Q) := by
  subst hz
  unfold debts
  iintro ⟨#HK, #Hlev, Hc, ⟨%W, HO⟩, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owing l) (W := W) (R := 0) (m := 0) (T := ∅)
      (by rw [expect_eq m c role_bar]; decide)) $$ [Hc HO Hat]
  · isplitr; · iapply (inv_bar m K c); iexact HK
    isplitl [Hc]; · iexact Hc
    isplitl [HO]; · iexact HO
    isplitr; · iapply (mayWait_of c (.reg barS) l (by rw [role_bar]; exact hl)); iexact Hlev
    iexact Hat
  iintro ⟨HO, Hat, -, Hpay⟩
  ihave Hp := (Entails.of_eq (rest_bar m c)) $$ Hpay
  imod (Rounds.cell_close ER (sched m) (Set.mem_univ (K (c, 0))) (fun h => h) (R := 0 + 1) (duties_later m (barCell c))) $$ [Hat] with Hz
  · isplitr; · iapply (inv_bar m K c); iexact HK
    iexact Hat
  iapply Hk
  isplitl [HO]; · iexists _; iexact HO
  isplitl [Hz]; · iexact Hz
  iexact Hp

/-! ## Transfers -/

/-- A local copy of a block owned at `v` onto one owned at anything: the credit to wait for it with. -/
theorem step_copy (c : Dev nD) {q : DmaSem sig} {ρ : Role} (hρ : role (.dma q) = ρ) (h0 : dutiesOf ρ = {0})
    {sp sp' : Space} {s : Shape} {e : EltTy} {src : Memref sig .tc sp s e} {dst : Memref sig .tc sp' s e} {v : s.Idx → Elt F e}
    (hN : dst.view.amount (.dma q) = amountOf ρ)
    (hpay : iprop(owns (c : Thread nD τ) dst fullShare v ∗ owns (c : Thread nD τ) src fullShare v) ⊢ payOf m c 0 ρ)
    {hsrc : src.view.WordExact} {hdst : dst.view.WordExact} {hsem : DmaTarget.Typed (nD := nD) (τ := τ) (p := .tc) sp (.dma q) (.here dst)}
    {α : Type} {k : PUnit → Prog (TpuEff nD τ sig (Elt F) Λ₀ .tc) α} {Q : α → sProp 𝕄} :
    iprop(records m K ∗ owns (c : Thread nD τ) src fullShare v ∗ (∃ Y, owns (c : Thread nD τ) dst fullShare Y) ∗ dutyTok ER (dmaCell c q) 0 0)
      ⊢ iprop((cred (tallyAt (dmaCell c q) () (amountOf ρ)) -∗ runs c (k ⟨⟩) Q)
          -∗ runs c (.op (.enqueueDma src (.here dst) (.dma q) hsrc hdst hsem) k) Q) := by
  have hq := ne_zero_of_role hρ h0
  iintro ⟨#HK, Hs, ⟨%Y, Hd⟩, Ht⟩
  unfold owns
  icases Hs with ⟨%fs, %hs, Hs⟩
  icases Hd with ⟨%fd, -, Hd⟩
  iapply (Rounds.wp_copy_pointsTo 𝒱₀ ER (sched m) (c : Thread nD τ) none (κ := K (c, q)) (src := src) (dst := dst) (sem := .dma q) (q := fullShare) (fs := fs) (fd := fd)
    (r := 0) (d := 0) (by rw [duties_eq m c hρ, h0]; exact Finset.mem_singleton_self _) () (amountOf ρ) hN (amount_eq m c hρ 0 0)
    (by
      rw [payload_eq m c hρ]
      refine BIBase.Entails.trans ?_ hpay
      rw [← hs]
      iintro ⟨Hd, Hs⟩
      isplitl [Hd]
      · ihave H := (owns_intro (c : Thread nD τ) dst fullShare (dst.view.write (Elt F) fd (src.view.read (Elt F) fs) Finset.univ)) $$ Hd
        rw [View.read_write_univ]; iexact H
      · iapply (owns_intro (c : Thread nD τ) src fullShare fs); iexact Hs))
  isplitr; · iapply (inv_dma m K c hq); iexact HK
  isplitl [Hs]; · iexact Hs
  isplitl [Hd]; · iexact Hd
  isplitl [Ht]; · iexact Ht
  iapply (reached_dma m K c hq); iexact HK

/-- The wait for a transfer: what it hands over, and its cell closed at zero. -/
theorem step_wait (c : Dev nD) {q : DmaSem sig} {ρ : Role} (hρ : role (.dma q) = ρ) (h0 : dutiesOf ρ = {0})
    (l : List (GSem nD τ sig × ℕ)) (hl : ∀ x ∈ l, x.1.1.2 = .tc ∧ level ρ < level (role x.1.2))
    {sp sp' : Space} {s s' : Shape} {e e' : EltTy} {src : Memref sig .tc sp' s' e'} {dst : Memref sig .tc sp s e}
    (hN : dst.view.dmaCredit = amountOf ρ) {hsrc : src.view.WordExact} {hdst : dst.view.WordExact}
    {α : Type} {k : PUnit → Prog (TpuEff nD τ sig (Elt F) Λ₀ .tc) α} {Q : α → sProp 𝕄} :
    iprop(records m K ∗ levAts L lv ∗ cred (tallyAt (dmaCell c q) () (amountOf ρ)) ∗ debts c l ∗ atPos ER (dmaCell c q) 0 ∅ 0)
      ⊢ iprop(((debts c l ∗ semVal (dmaCell c q) 0 ∗ payOf m c 0 ρ) -∗ runs c (k ⟨⟩) Q)
          -∗ runs c (.op (.waitDma2 q src dst hsrc hdst) k) Q) := by
  have hq := ne_zero_of_role hρ h0
  unfold debts
  iintro ⟨#HK, #Hlev, Hc, ⟨%W, HO⟩, Hat⟩ Hk
  iapply (Rounds.wp_wait_rest_token 𝒱₀ ER (sched m) (c : Thread nD τ) none (κ := K (c, q))
      (wpE_waitDma2_eq 𝒱₀ (c : Thread nD τ) none Set.univ) (Set.mem_univ _) () (O := owing l) (W := W) (R := 0) (m := 0) (T := ∅)
      (by rw [Nat.zero_add, expect_eq m c hρ, h0, Finset.card_singleton, Nat.one_mul, hN])) $$ [Hc HO Hat]
  · isplitr; · iapply (inv_dma m K c hq); iexact HK
    isplitl [Hc]; · rw [hN]; iexact Hc
    isplitl [HO]; · iexact HO
    isplitr; · iapply (mayWait_of c (.dma q) l (by rw [hρ]; exact hl)); iexact Hlev
    iexact Hat
  iintro ⟨HO, Hat, -, Hpay⟩
  ihave Hp := (Entails.of_eq (rest_eq m c hρ h0)) $$ Hpay
  imod (Rounds.cell_close ER (sched m) (Set.mem_univ (K (c, q))) (fun h => h) (R := 0 + 1) (duties_later m (dmaCell c q))) $$ [Hat] with Hz
  · isplitr; · iapply (inv_dma m K c hq); iexact HK
    iexact Hat
  iapply Hk
  isplitl [HO]; · iexists _; iexact HO
  isplitl [Hz]; · iexact Hz
  iexact Hp

/-- A cell without duties closes as it stands. -/
theorem close_idle (c : Dev nD) {q : DmaSem sig} (hq : q ≠ (0 : Fin 26)) (hρ : role (.dma q) = .idle) :
    iprop(records m K ∗ atPos ER (dmaCell c q) 0 ∅ 0) ⊢ iprop(|={Set.univ}=> semVal (dmaCell c q) 0 : sProp 𝕄) := by
  iintro ⟨#HK, Hat⟩
  iapply (Rounds.cell_close ER (sched m) (Set.mem_univ (K (c, q))) (fun h => h) (R := 0) (duties_idle m c hρ))
  isplitr; · iapply (inv_dma m K c hq); iexact HK
  iexact Hat

/-- A device's copy to the one `d` places up of that one's rows: from its block to its slot `d` there. -/
theorem step_send (c : Dev nD) (d : Fin 8) (hd : d ≠ 0) {n : Dev nD} (hn : n = up c d)
    {o : Fin 2 → ℕ} (ho : o = ![128 * (up c d).val, 0]) {o' : Fin 3 → ℕ} (ho' : o' = ![d.val, 0, 0])
    {qs qr : DmaSem sig} (hqs : qs = sendS d) (hqr : qr = recvS d)
    {inb : ∀ a, o a + S128x128.size a ≤ S1024x128.size a} {inb' : ∀ a, o' a + S1x128x128.size a ≤ S8x128x128.size a}
    {hsc : ((gM.slice (Rect.unit (s := S8x128x128) o' S1x128x128.size inb') (fun _ => rfl)).squeeze S128x128 squeezes_S1x128x128_S128x128
      : Memref sig (Dev.tc n : Thread nD τ).2.kind .vmem S128x128 .bf16).view.ref.isScScratch = false}
    {hsrc : (xbM.slice (Rect.unit (s := S1024x128) o S128x128.size inb) (fun _ => rfl)).view.WordExact}
    {hdst : ((gM.slice (Rect.unit (s := S8x128x128) o' S1x128x128.size inb') (fun _ => rfl)).squeeze S128x128 squeezes_S1x128x128_S128x128).view.WordExact}
    {hsem : DmaTarget.Typed .vmem (.dma qr) (.remote (Dev.tc n : Thread nD τ)
      ((gM.slice (Rect.unit (s := S8x128x128) o' S1x128x128.size inb') (fun _ => rfl)).squeeze S128x128 squeezes_S1x128x128_S128x128
        : Memref sig (Dev.tc n : Thread nD τ).2.kind .vmem S128x128 .bf16) (.dma qs) hsc)}
    (l : List (GSem nD τ sig × ℕ)) {α : Type} {k : PUnit → Prog (TpuEff nD τ sig (Elt F) Λ₀ .tc) α} {Q : α → sProp 𝕄} :
    iprop(records m K ∗ sendPay m c d ∗ barPay c d ∗ debts c (recvDue c d :: l)
        ∗ dutyTok ER (dmaCell c (sendS d)) 0 0 ∗ dutyTok ER (dmaCell (up c d) (recvS d)) 0 0)
      ⊢ iprop(((cred (tallyAt (dmaCell c (sendS d)) () NB) ∗ debts c l) -∗ runs c (k ⟨⟩) Q)
          -∗ runs c (.op (.enqueueDma (xbM.slice (Rect.unit (s := S1024x128) o S128x128.size inb) (fun _ => rfl))
              (.remote (Dev.tc n : Thread nD τ) ((gM.slice (Rect.unit (s := S8x128x128) o' S1x128x128.size inb') (fun _ => rfl)).squeeze S128x128 squeezes_S1x128x128_S128x128) (.dma qs) hsc)
              (.dma qr) hsrc hdst hsem) k) Q) := by
  subst hn ho ho' hqs hqr
  have hs := role_send hd
  have hr := role_recv hd
  have hqs := ne_zero_of_role hs rfl
  have hqr := ne_zero_of_role hr rfl
  unfold debts
  iintro ⟨#HK, Hs, Hb, ⟨%W, HO⟩, Hts, Htr⟩ Hk
  unfold sendPay barPay owns
  icases Hs with ⟨%fs, %hfs, Hs⟩
  icases Hb with ⟨%Y, %fd, -, Hd⟩
  iapply (Rounds.wp_send_pointsTo 𝒱₀ ER (sched m) (c : Thread nD τ) none (c' := (up c d : Thread nD τ)) (src := blkX (up c d)) (dst := flatG d)
    (sS := .dma (sendS d)) (sem := .dma (recvS d)) (κ₁ := K (c, sendS d)) (κ₂ := K (up c d, recvS d)) (q := fullShare) (fs := fs) (fd := fd)
    (r₁ := 0) (r₂ := 0) (d₁ := 0) (d₂ := 0)
    (by rw [duties_eq m c hs]; exact Finset.mem_singleton_self _) (by rw [duties_eq m (up c d) hr]; exact Finset.mem_singleton_self _)
    () () NB rfl (amount_eq m c hs 0 0) (amount_eq m (up c d) hr 0 0) (owing l) rfl (W := W)
    (by
      rw [payload_eq m c hs]
      show _ ⊢ owns (c : Thread nD τ) (blkX (up c d)) fullShare (part m c (up c d))
      rw [← hfs]
      exact owns_intro (c : Thread nD τ) (blkX (up c d)) fullShare fs)
    (by
      rw [payload_eq m (up c d) hr]
      show _ ⊢ recvPay m (up c d) d
      unfold recvPay slab
      rw [down_up, ← hfs]
      refine BIBase.Entails.trans ?_ (owns_flat (up c d) d ((blkX (up c d)).view.read (Elt F) fs))
      have h := owns_intro (Ix := Unit) (Name := ℕ) (U := UU) (Lvl := ℕ) (up c d : Thread nD τ) (flatG d) fullShare
        ((flatG d).view.write (Elt F) fd ((blkX (up c d)).view.read (Elt F) fs) Finset.univ)
      rw [View.read_write_univ] at h
      exact h)) $$ [Hs Hd HO Hts Htr]
  · isplitr; · iapply (inv_dma m K c hqs); iexact HK
    isplitr; · iapply (inv_dma m K (up c d) hqr); iexact HK
    isplitl [Hs]; · iexact Hs
    isplitl [Hd]; · rw [show (flatG d).view.set = (blkG d).view.set from View.set_reshape _ _]; iexact Hd
    isplitl [HO]; · iexact HO
    isplitl [Hts]; · iexact Hts
    isplitr; · iapply (reached_dma m K c hqs); iexact HK
    isplitl [Htr]; · iexact Htr
    iapply (reached_dma m K (up c d) hqr); iexact HK
  iintro ⟨Hc, HO⟩
  iapply Hk
  isplitl [Hc]; · iexact Hc
  iexists W; iexact HO

end Cert.RowMix

end
-- ==== Proof.Accum.lean ====
/- What the kernel computes with: the loads and stores at the places the program prints, the copies in of the operands,
   and the two sequences the accumulation is made of — a row block of the second operand awaited and rounded, and a slot
   awaited, multiplied by its row block and added to the result so far. -/
module

public import proofs.«01_k».proof.Proof.Steps

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 26 → ℕ)

/-! ## Loads and stores at an offset, and of whole buffers -/

section Access

variable (c : Dev nD) {cs : CoreSpace} {s : Shape} {e : EltTy} {M : Memref sig .tc cs s e} {sz o o' : Fin s.rank → ℕ}
  {inb : ∀ a, o a + sz a ≤ s.size a} {inb' : ∀ a, o' a + sz a ≤ s.size a} {α : Type}

theorem load_at (ho : o = o') {hl : M.view.LoadsAt (Rect.unit (s := s) o sz inb).toLoadRect}
    {k : ((⟨s.rank, sz⟩ : Shape).Idx → Elt F e) → Prog (TpuEff nD τ sig (Elt F) Λ₀ .tc) α}
    {X : (⟨s.rank, sz⟩ : Shape).Idx → Elt F e} {Q : α → sProp 𝕄} :
    (owns (c : Thread nD τ) (M.slice (Rect.unit (s := s) o' sz inb') (fun _ => rfl)) fullShare X : sProp 𝕄)
      ⊢ iprop((owns (c : Thread nD τ) (M.slice (Rect.unit (s := s) o' sz inb') (fun _ => rfl)) fullShare X -∗ runs c (k X) Q)
        -∗ runs c (.op (.load M (Rect.unit (s := s) o sz inb).toLoadRect hl) k) Q) := by
  subst ho
  exact load_block 𝒱₀ c (fun _ => rfl)

theorem store_at (ho : o = o') {w : (⟨s.rank, sz⟩ : Shape).Idx → Elt F e} {hx : (M.access (Rect.unit (s := s) o sz inb)).Stores Finset.univ}
    {hm : (Finset.univ : Finset (Rect.unit (s := s) o sz inb).shape.Idx) = Finset.univ ∨ ∀ a, (Rect.unit (s := s) o sz inb).stride a = 1}
    {k : PUnit → Prog (TpuEff nD τ sig (Elt F) Λ₀ .tc) α} {Q : α → sProp 𝕄} :
    iprop(∃ X, owns (c : Thread nD τ) (M.slice (Rect.unit (s := s) o' sz inb') (fun _ => rfl)) fullShare X : sProp 𝕄)
      ⊢ iprop((owns (c : Thread nD τ) (M.slice (Rect.unit (s := s) o' sz inb') (fun _ => rfl)) fullShare w -∗ runs c (k ⟨⟩) Q)
        -∗ runs c (.op (.store M (Rect.unit (s := s) o sz inb) w Finset.univ hx hm) k) Q) := by
  subst ho
  exact store_block 𝒱₀ c (fun _ => rfl)

end Access

section Whole

variable (c : Dev nD) {cs : CoreSpace} {s : Shape} {e : EltTy} {M : Memref sig .tc cs s e} {α : Type}

/-- A load from a buffer held whole, given what it reads, -/
theorem load_whole {r : LoadRect s} {hl : M.view.LoadsAt r} {k : (r.shape.Idx → Elt F e) → Prog (TpuEff nD τ sig (Elt F) Λ₀ .tc) α}
    {X : Buf (Elt F) (M.view.loc (c : Thread nD τ))} {Y : r.shape.Idx → Elt F e} (hr : M.view.readAt (Elt F) r X = Y) {Q : α → sProp 𝕄} :
    ((M.view.loc (c : Thread nD τ)) ↦{fullShare} X : sProp 𝕄)
      ⊢ iprop((((M.view.loc (c : Thread nD τ)) ↦{fullShare} X) -∗ runs c (k Y) Q) -∗ runs c (.op (.load M r hl) k) Q) := by
  subst hr
  exact wp_load 𝒱₀ (c : Thread nD τ) none Set.univ (m := M) (S := Finset.univ) (Finset.subset_univ _)

/-- and a store to one, given what it leaves. -/
theorem store_whole {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α}
    {X Y : Buf (Elt F) (M.view.loc (c : Thread nD τ))} (hw : (M.access r).write (Elt F) X w Finset.univ = Y) {Q : α → sProp 𝕄} :
    ((M.view.loc (c : Thread nD τ)) ↦{fullShare} X : sProp 𝕄)
      ⊢ iprop((((M.view.loc (c : Thread nD τ)) ↦{fullShare} Y) -∗ runs c (k ⟨⟩) Q)
        -∗ runs c (.op (.store M r w Finset.univ hx hm) k) Q) := by
  subst hw
  exact wp_store 𝒱₀ (c : Thread nD τ) none Set.univ (m := M) (r := r) (Mk := Finset.univ) (S := Finset.univ) (Finset.subset_univ _)

end Whole

theorem origin : (![0, 0] : Fin 2 → ℕ) = fun _ => 0 := funext fun a => by fin_cases a <;> rfl

/-! ## The operands by place -/

/-- Down the ring by `0, …, 7` from `c` is every device once; so is up; and so are the negatives. -/
def downs (c : Dev nD) : Fin 8 ≃ Fin 8 := ⟨fun d => down c d, fun b => down c b, by revert c; decide, by revert c; decide⟩
def ups (c : Dev nD) : Fin 8 ≃ Fin 8 := ⟨fun d => up c d, fun b => down b c, by revert c; decide, by revert c; decide⟩
def negs : Fin 8 ≃ Fin 8 := ⟨fun d => -d, fun d => -d, by decide, by decide⟩

/-- The second operand is the blocks its copies read, -/
theorem deal_w (c : Dev nD) : (((c : Thread nD τ).loc main_arg1) ↦{fullShare} wIn m c : sProp 𝕄)
    ⊢ bigSep Finset.univ fun d => owns (c : Thread nD τ) (blkW (down c d)) fullShare (wgt m c d) := by
  have h := cut c main_arg1 rowsW (fun _ _ => rfl) rowsW_disjoint rowsW_cover (wIn m c)
  rw [bigSep_univ_equiv (downs c)] at h
  exact h
theorem gather_w (c : Dev nD) : (bigSep Finset.univ fun d => owns (c : Thread nD τ) (blkW (down c d)) fullShare (wgt m c d) : sProp 𝕄)
    ⊢ (((c : Thread nD τ).loc main_arg1) ↦{fullShare} wIn m c) := by
  have h := paste c main_arg1 rowsW (fun _ _ => rfl) rowsW_disjoint rowsW_cover (wIn m c)
  rw [bigSep_univ_equiv (downs c)] at h
  exact h

/-- the rounded first operand the blocks the devices need of it. -/
theorem deal_x (c : Dev nD) : (((c : Thread nD τ).loc cc0_scratch2) ↦{fullShare} xLow m c : sProp 𝕄) ⊢ bigSep Finset.univ (sendPay m c) := by
  have h := cut c cc0_scratch2 rowsX (fun _ _ => rfl) rowsX_disjoint rowsX_cover (xLow m c)
  rw [bigSep_univ_equiv (ups c)] at h
  exact h
theorem gather_x (c : Dev nD) : (bigSep Finset.univ (sendPay m c) : sProp 𝕄) ⊢ (((c : Thread nD τ).loc cc0_scratch2) ↦{fullShare} xLow m c) := by
  have h := paste c cc0_scratch2 rowsX (fun _ _ => rfl) rowsX_disjoint rowsX_cover (xLow m c)
  rw [bigSep_univ_equiv (ups c)] at h
  exact h

/-! ## The copies in -/

/-- The copy of the first operand. -/
theorem step_x (c : Dev nD) {q : DmaSem sig} (hq : q = xS) {hsrc : xM.view.WordExact} {hdst : xvM.view.WordExact}
    {hsem : DmaTarget.Typed (nD := nD) (τ := τ) (p := .tc) .hbm (.dma q) (.here xvM)}
    {α : Type} {k : PUnit → Prog (TpuEff nD τ sig (Elt F) Λ₀ .tc) α} {Q : α → sProp 𝕄} :
    iprop(records m K ∗ owns (c : Thread nD τ) xM fullShare (xIn m c) ∗ (∃ Y, owns (c : Thread nD τ) xvM fullShare Y) ∗ dutyTok ER (dmaCell c xS) 0 0)
      ⊢ iprop((cred (tallyAt (dmaCell c xS) () NX) -∗ runs c (k ⟨⟩) Q)
          -∗ runs c (.op (.enqueueDma xM (.here xvM) (.dma q) hsrc hdst hsem) k) Q) := by
  subst hq
  exact step_copy m K c role_x rfl rfl (Entails.of_eq rfl)

/-- Copy `e` of the second: the rows the step `e` of the accumulation multiplies by. -/
theorem step_w (c : Dev nD) (e : Fin 8) {o o' : Fin 2 → ℕ} (ho : o = ![128 * (down c e).val, 0]) (ho' : o' = ![128 * e.val, 0])
    {q : DmaSem sig} (hq : q = wS e) {inb : ∀ a, o a + S128x1024.size a ≤ S1024x1024.size a} {inb' : ∀ a, o' a + S128x1024.size a ≤ S1024x1024.size a}
    {hsrc : (wM.slice (Rect.unit (s := S1024x1024) o S128x1024.size inb) (fun _ => rfl)).view.WordExact}
    {hdst : (wvM.slice (Rect.unit (s := S1024x1024) o' S128x1024.size inb') (fun _ => rfl)).view.WordExact}
    {hsem : DmaTarget.Typed (nD := nD) (τ := τ) (p := .tc) .hbm (.dma q) (.here (wvM.slice (Rect.unit (s := S1024x1024) o' S128x1024.size inb') (fun _ => rfl)))}
    {α : Type} {k : PUnit → Prog (TpuEff nD τ sig (Elt F) Λ₀ .tc) α} {Q : α → sProp 𝕄} :
    iprop(records m K ∗ owns (c : Thread nD τ) (blkW (down c e)) fullShare (wgt m c e) ∗ (∃ Y, owns (c : Thread nD τ) (blkV e) fullShare Y)
        ∗ dutyTok ER (dmaCell c (wS e)) 0 0)
      ⊢ iprop((cred (tallyAt (dmaCell c (wS e)) () NW) -∗ runs c (k ⟨⟩) Q)
          -∗ runs c (.op (.enqueueDma (wM.slice (Rect.unit (s := S1024x1024) o S128x1024.size inb) (fun _ => rfl))
              (.here (wvM.slice (Rect.unit (s := S1024x1024) o' S128x1024.size inb') (fun _ => rfl))) (.dma q) hsrc hdst hsem) k) Q) := by
  subst ho ho' hq
  exact step_copy m K c (role_w e) rfl rfl (Entails.of_eq rfl)

/-- The first operand rounded. -/
theorem step_round (c : Dev nD) {inb : ∀ a, (![0, 0] : Fin 2 → ℕ) a + S1024x128.size a ≤ S1024x128.size a}
    {hl : xbM.view.LoadsAt (Rect.unit (s := S1024x128) ![0, 0] S1024x128.size inb).toLoadRect}
    {hx : (xbM.access (Rect.unit (s := S1024x128) ![0, 0] S1024x128.size inb)).Stores Finset.univ}
    {hm : (Finset.univ : Finset (Rect.unit (s := S1024x128) ![0, 0] S1024x128.size inb).shape.Idx) = Finset.univ ∨ ∀ a, (Rect.unit (s := S1024x128) ![0, 0] S1024x128.size inb).stride a = 1}
    {α : Type} {k : PUnit → Prog (TpuEff nD τ sig (Elt F) Λ₀ .tc) α} {Q : α → sProp 𝕄} :
    iprop(∃ X, (((c : Thread nD τ).loc cc0_scratch2) ↦{fullShare} X))
      ⊢ iprop((bigSep Finset.univ (sendPay m c) -∗ runs c (k ⟨⟩) Q)
        -∗ runs c (.op (.load xbM (Rect.unit (s := S1024x128) ![0, 0] S1024x128.size inb).toLoadRect hl) fun _ =>
          .op (.store xbM (Rect.unit (s := S1024x128) ![0, 0] S1024x128.size inb) (k0_pay1 (xIn m c)) Finset.univ hx hm) k) Q) := by
  rw [show k0_pay1 (xIn m c) = xLow m c from rfl]
  iintro ⟨%X, H⟩ Hk
  iapply (load_whole (M := xbM) c (Memref.readAt_unit_zero (Elt F) cc0_scratch2 origin _ X)) $$ H
  iintro H
  iapply (store_whole (M := xbM) c (Memref.write_access_unit_zero_univ (Elt F) cc0_scratch2 origin _ X (xLow m c))) $$ H
  iintro H
  iapply Hk
  iapply (deal_x m c)
  iexact H

theorem up_zero (c : Fin 8) : up c 0 = c := by revert c; decide
theorem down_zero (c : Fin 8) : down c 0 = c := by revert c; decide

/-- A device's own rows of its own columns go to its own slot 0 without a transfer. -/
theorem step_own (c : Dev nD) {o : Fin 2 → ℕ} (ho : o = ![128 * (up c 0).val, 0]) {o' : Fin 3 → ℕ} (ho' : o' = ![(0 : Fin 8).val, 0, 0])
    {inb : ∀ a, o a + S128x128.size a ≤ S1024x128.size a} {inb' : ∀ a, o' a + S1x128x128.size a ≤ S8x128x128.size a}
    {h0 : xbM.view.LoadsAt (Rect.unit (s := S1024x128) o S128x128.size inb).toLoadRect}
    {hl : gM.view.LoadsAt (Rect.unit (s := S8x128x128) o' S1x128x128.size inb').toLoadRect}
    {hx : (gM.access (Rect.unit (s := S8x128x128) o' S1x128x128.size inb')).Stores Finset.univ}
    {hm : (Finset.univ : Finset (Rect.unit (s := S8x128x128) o' S1x128x128.size inb').shape.Idx) = Finset.univ ∨ ∀ a, (Rect.unit (s := S8x128x128) o' S1x128x128.size inb').stride a = 1}
    {α : Type} {k : PUnit → Prog (TpuEff nD τ sig (Elt F) Λ₀ .tc) α} {Q : α → sProp 𝕄} :
    iprop(sendPay m c 0 ∗ ∃ Y, owns (c : Thread nD τ) (blkG 0) fullShare Y)
      ⊢ iprop(((sendPay m c 0 ∗ recvPay m c 0) -∗ runs c (k ⟨⟩) Q)
        -∗ runs c (.op (.load xbM (Rect.unit (s := S1024x128) o S128x128.size inb).toLoadRect h0) fun v =>
          .op (.load gM (Rect.unit (s := S8x128x128) o' S1x128x128.size inb').toLoadRect hl) fun _ =>
          .op (.store gM (Rect.unit (s := S8x128x128) o' S1x128x128.size inb') (k0_pay2 v) Finset.univ hx hm) k) Q) := by
  subst ho ho'
  unfold sendPay
  iintro ⟨HX, ⟨%Y, HG⟩⟩ Hk
  iapply (load_at (M := xbM) (o' := ![128 * (up c 0).val, 0]) (inb' := rowsX_inb (up c 0)) c rfl) $$ HX
  iintro HX
  iapply (load_at (M := gM) (o' := ![(0 : Fin 8).val, 0, 0]) (inb' := slot_inb 0) c rfl) $$ HG
  iintro HG
  iapply (store_at (M := gM) (o' := ![(0 : Fin 8).val, 0, 0]) (inb' := slot_inb 0) c rfl) $$ [HG]
  · iexists Y; iexact HG
  iintro HG
  iapply Hk
  isplitl [HX]; · iexact HX
  unfold recvPay slab
  rw [down_zero, up_zero]
  iexact HG

/-! ## The accumulation -/

/-- Row block `e` awaited, read, rounded and stored. -/
theorem step_weights (c : Dev nD) (e : Fin 8) {q : DmaSem sig} (hq : q = wS e) {o : Fin 2 → ℕ} (ho : o = ![128 * e.val, 0])
    {sp sp' : Space} {s s' : Shape} {t t' : EltTy} {src : Memref sig .tc sp' s' t'} {dst : Memref sig .tc sp s t} (hN : dst.view.dmaCredit = NW)
    {hsrc : src.view.WordExact} {hdst : dst.view.WordExact} {inb : ∀ a, o a + S128x1024.size a ≤ S1024x1024.size a}
    {pay : (S128x1024.Idx → Elt F .f32) → S128x1024.Idx → Elt F .bf16} (hpay : pay (wgt m c e) = wgtLow m c e)
    {hl : wvM.view.LoadsAt (Rect.unit (s := S1024x1024) o S128x1024.size inb).toLoadRect}
    {hl' : wbM.view.LoadsAt (Rect.unit (s := S1024x1024) o S128x1024.size inb).toLoadRect}
    {hx : (wbM.access (Rect.unit (s := S1024x1024) o S128x1024.size inb)).Stores Finset.univ}
    {hm : (Finset.univ : Finset (Rect.unit (s := S1024x1024) o S128x1024.size inb).shape.Idx) = Finset.univ ∨ ∀ a, (Rect.unit (s := S1024x1024) o S128x1024.size inb).stride a = 1}
    {α : Type} {k : PUnit → Prog (TpuEff nD τ sig (Elt F) Λ₀ .tc) α} {Q : α → sProp 𝕄} :
    iprop(records m K ∗ levAts L lv ∗ cred (tallyAt (dmaCell c (wS e)) () NW) ∗ debts c [] ∗ atPos ER (dmaCell c (wS e)) 0 ∅ 0
        ∗ ∃ Y, owns (c : Thread nD τ) (blkB e) fullShare Y)
      ⊢ iprop(((debts c [] ∗ semVal (dmaCell c (wS e)) 0 ∗ wPay m c e ∗ owns (c : Thread nD τ) (blkB e) fullShare (wgtLow m c e)) -∗ runs c (k ⟨⟩) Q)
          -∗ runs c (.op (.waitDma2 q src dst hsrc hdst) fun _ =>
              .op (.load wvM (Rect.unit (s := S1024x1024) o S128x1024.size inb).toLoadRect hl) fun v =>
              .op (.load wbM (Rect.unit (s := S1024x1024) o S128x1024.size inb).toLoadRect hl') fun _ =>
              .op (.store wbM (Rect.unit (s := S1024x1024) o S128x1024.size inb) (pay v) Finset.univ hx hm) k) Q) := by
  subst hq ho
  iintro ⟨#HK, #Hlev, Hc, HO, Hat, ⟨%Y, HB⟩⟩ Hk
  iapply (step_wait m K c (role_w e) rfl [] (fun _ h => absurd h List.not_mem_nil) hN) $$ [Hc HO Hat]
  · isplitr; · iexact HK
    isplitr; · iexact Hlev
    isplitl [Hc]; · iexact Hc
    isplitl [HO] <;> iassumption
  iintro ⟨HO, Hz, Hp⟩
  ihave Hp := (show payOf m c 0 (.wcopy e) ⊢ wPay m c e from Entails.of_eq rfl) $$ Hp
  unfold wPay
  icases Hp with ⟨HV, HW⟩
  iapply (load_at (M := wvM) (o' := ![128 * e.val, 0]) (inb' := rowsW_inb e) c rfl) $$ HV
  iintro HV
  iapply (load_at (M := wbM) (o' := ![128 * e.val, 0]) (inb' := rowsW_inb e) c rfl) $$ HB
  iintro HB
  iapply (store_at (M := wbM) (o' := ![128 * e.val, 0]) (inb' := rowsW_inb e) c rfl) $$ [HB]
  · iexists Y; iexact HB
  iintro HB
  rw [hpay]
  iapply Hk
  isplitl [HO]; · iexact HO
  isplitl [Hz]; · iexact Hz
  isplitl [HV HW]
  · isplitl [HV] <;> iassumption
  iexact HB

/-- The first product, of the device's own slot. -/
theorem step_first (c : Dev nD) {o : Fin 2 → ℕ} (ho : o = ![128 * (0 : Fin 8).val, 0]) {o' : Fin 3 → ℕ} (ho' : o' = ![(0 : Fin 8).val, 0, 0])
    {inb : ∀ a, o a + S128x1024.size a ≤ S1024x1024.size a}
    {inb' : ∀ a, o' a + S1x128x128.size a ≤ S8x128x128.size a} {inb0 : ∀ a, (![0, 0] : Fin 2 → ℕ) a + S128x1024.size a ≤ S128x1024.size a}
    {hl : gM.view.LoadsAt (Rect.unit (s := S8x128x128) o' S1x128x128.size inb').toLoadRect}
    {hl' : wbM.view.LoadsAt (Rect.unit (s := S1024x1024) o S128x1024.size inb).toLoadRect}
    {h0 : oM.view.LoadsAt (Rect.unit (s := S128x1024) ![0, 0] S128x1024.size inb0).toLoadRect}
    {hx : (oM.access (Rect.unit (s := S128x1024) ![0, 0] S128x1024.size inb0)).Stores Finset.univ}
    {hm : (Finset.univ : Finset (Rect.unit (s := S128x1024) ![0, 0] S128x1024.size inb0).shape.Idx) = Finset.univ ∨ ∀ a, (Rect.unit (s := S128x1024) ![0, 0] S128x1024.size inb0).stride a = 1}
    {α : Type} {k : PUnit → Prog (TpuEff nD τ sig (Elt F) Λ₀ .tc) α} {Q : α → sProp 𝕄} :
    iprop(recvPay m c 0 ∗ owns (c : Thread nD τ) (blkB 0) fullShare (wgtLow m c 0) ∗ ∃ v, (((c : Thread nD τ).loc cc0_stg0_0) ↦{fullShare} v))
      ⊢ iprop(((recvPay m c 0 ∗ owns (c : Thread nD τ) (blkB 0) fullShare (wgtLow m c 0) ∗ (((c : Thread nD τ).loc cc0_stg0_0) ↦{fullShare} sum0 m c)) -∗ runs c (k ⟨⟩) Q)
          -∗ runs c (.op (.load gM (Rect.unit (s := S8x128x128) o' S1x128x128.size inb').toLoadRect hl) fun g =>
              .op (.load wbM (Rect.unit (s := S1024x1024) o S128x1024.size inb).toLoadRect hl') fun w =>
              .op (.load oM (Rect.unit (s := S128x1024) ![0, 0] S128x1024.size inb0).toLoadRect h0) fun _ =>
              .op (.store oM (Rect.unit (s := S128x1024) ![0, 0] S128x1024.size inb0) (k0_pay4 g w) Finset.univ hx hm) k) Q) := by
  subst ho ho'
  unfold recvPay
  iintro ⟨HG, HB, ⟨%v, Ho⟩⟩ Hk
  iapply (load_at (M := gM) (o' := ![(0 : Fin 8).val, 0, 0]) (inb' := slot_inb 0) c rfl) $$ HG
  iintro HG
  iapply (load_at (M := wbM) (o' := ![128 * (0 : Fin 8).val, 0]) (inb' := rowsW_inb 0) c rfl) $$ HB
  iintro HB
  rw [show k0_pay4 (slab m c 0) (wgtLow m c 0) = sum0 m c from rfl]
  iapply (load_whole (M := oM) c (Memref.readAt_unit_zero (Elt F) cc0_stg0_0 origin _ v)) $$ Ho
  iintro Ho
  iapply (store_whole (M := oM) c (Memref.write_access_unit_zero_univ (Elt F) cc0_stg0_0 origin _ v (sum0 m c))) $$ Ho
  iintro Ho
  iapply Hk
  isplitl [HG]; · iexact HG
  isplitl [HB] <;> iassumption

/-- Slot `d` awaited, multiplied by its row block and added to the result so far. -/
theorem step_add (c : Dev nD) (d : Fin 8) (hd : d ≠ 0) {q : DmaSem sig} (hq : q = recvS d) {o : Fin 2 → ℕ} (ho : o = ![128 * d.val, 0])
    {o' : Fin 3 → ℕ} (ho' : o' = ![d.val, 0, 0]) (v : S128x1024.Idx → Elt F .f32)
    {sp sp' : Space} {s s' : Shape} {t t' : EltTy} {src : Memref sig .tc sp' s' t'} {dst : Memref sig .tc sp s t} (hN : dst.view.dmaCredit = NB)
    {hsrc : src.view.WordExact} {hdst : dst.view.WordExact} {inb : ∀ a, o a + S128x1024.size a ≤ S1024x1024.size a}
    {inb' : ∀ a, o' a + S1x128x128.size a ≤ S8x128x128.size a} {inb0 : ∀ a, (![0, 0] : Fin 2 → ℕ) a + S128x1024.size a ≤ S128x1024.size a}
    {pay : (S1x128x128.Idx → Elt F .bf16) → (S128x1024.Idx → Elt F .bf16) → (S128x1024.Idx → Elt F .f32) → S128x1024.Idx → Elt F .f32}
    (hpay : pay (slab m c d) (wgtLow m c d) v = addStep m c d v)
    {hl : gM.view.LoadsAt (Rect.unit (s := S8x128x128) o' S1x128x128.size inb').toLoadRect}
    {hl' : wbM.view.LoadsAt (Rect.unit (s := S1024x1024) o S128x1024.size inb).toLoadRect}
    {h0 h0' : oM.view.LoadsAt (Rect.unit (s := S128x1024) ![0, 0] S128x1024.size inb0).toLoadRect}
    {hx : (oM.access (Rect.unit (s := S128x1024) ![0, 0] S128x1024.size inb0)).Stores Finset.univ}
    {hm : (Finset.univ : Finset (Rect.unit (s := S128x1024) ![0, 0] S128x1024.size inb0).shape.Idx) = Finset.univ ∨ ∀ a, (Rect.unit (s := S128x1024) ![0, 0] S128x1024.size inb0).stride a = 1}
    {α : Type} {k : PUnit → Prog (TpuEff nD τ sig (Elt F) Λ₀ .tc) α} {Q : α → sProp 𝕄} :
    iprop(records m K ∗ levAts L lv ∗ cred (tallyAt (dmaCell c (recvS d)) () NB) ∗ debts c [] ∗ atPos ER (dmaCell c (recvS d)) 0 ∅ 0
        ∗ owns (c : Thread nD τ) (blkB d) fullShare (wgtLow m c d) ∗ (((c : Thread nD τ).loc cc0_stg0_0) ↦{fullShare} v))
      ⊢ iprop(((debts c [] ∗ semVal (dmaCell c (recvS d)) 0 ∗ recvPay m c d ∗ owns (c : Thread nD τ) (blkB d) fullShare (wgtLow m c d)
              ∗ (((c : Thread nD τ).loc cc0_stg0_0) ↦{fullShare} addStep m c d v)) -∗ runs c (k ⟨⟩) Q)
          -∗ runs c (.op (.waitDma2 q src dst hsrc hdst) fun _ =>
              .op (.load gM (Rect.unit (s := S8x128x128) o' S1x128x128.size inb').toLoadRect hl) fun g =>
              .op (.load wbM (Rect.unit (s := S1024x1024) o S128x1024.size inb).toLoadRect hl') fun w =>
              .op (.load oM (Rect.unit (s := S128x1024) ![0, 0] S128x1024.size inb0).toLoadRect h0) fun y =>
              .op (.load oM (Rect.unit (s := S128x1024) ![0, 0] S128x1024.size inb0).toLoadRect h0') fun _ =>
              .op (.store oM (Rect.unit (s := S128x1024) ![0, 0] S128x1024.size inb0) (pay g w y) Finset.univ hx hm) k) Q) := by
  subst hq ho ho'
  iintro ⟨#HK, #Hlev, Hc, HO, Hat, HB, Ho⟩ Hk
  iapply (step_wait m K c (role_recv hd) rfl [] (fun _ h => absurd h List.not_mem_nil) hN) $$ [Hc HO Hat]
  · isplitr; · iexact HK
    isplitr; · iexact Hlev
    isplitl [Hc]; · iexact Hc
    isplitl [HO] <;> iassumption
  iintro ⟨HO, Hz, Hp⟩
  ihave Hp := (show payOf m c 0 (.recv d) ⊢ owns (c : Thread nD τ) (blkG d) fullShare (slab m c d) from Entails.of_eq rfl) $$ Hp
  iapply (load_at (M := gM) (o' := ![d.val, 0, 0]) (inb' := slot_inb d) c rfl) $$ Hp
  iintro Hp
  iapply (load_at (M := wbM) (o' := ![128 * d.val, 0]) (inb' := rowsW_inb d) c rfl) $$ HB
  iintro HB
  iapply (load_whole (M := oM) c (Memref.readAt_unit_zero (Elt F) cc0_stg0_0 origin _ v)) $$ Ho
  iintro Ho
  iapply (load_whole (M := oM) c (Memref.readAt_unit_zero (Elt F) cc0_stg0_0 origin _ v)) $$ Ho
  iintro Ho
  iapply (store_whole (M := oM) c (Memref.write_access_unit_zero_univ (Elt F) cc0_stg0_0 origin _ v _)) $$ Ho
  iintro Ho
  rw [hpay]
  iapply Hk
  isplitl [HO]; · iexact HO
  isplitl [Hz]; · iexact Hz
  isplitl [Hp]; · unfold recvPay; iexact Hp
  isplitl [HB] <;> iassumption

end Cert.RowMix

end
-- ==== Proof.Pieces.lean ====
/- What a device brings to the kernel's body and what it leaves with, sorted by the place `d` on the ring each piece
   concerns; how the buffers are dealt into those pieces and gathered again. -/
module

public import proofs.«01_k».proof.Proof.Accum

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces for place `d` -/

/-- For the signal to the device `d` places up: the right to pay it, and the slot it hands over; -/
abbrev sigKit (c : Dev nD) (d : Fin 8) : sProp 𝕄 :=
  iprop(dutyTok ER (barCell (up c d)) 0 (-d) ∗ ∃ Y, owns (c : Thread nD τ) (blkG (-d)) fullShare Y)
/-- for the remote copy there: the rights to pay its two ends; -/
abbrev sendKit (c : Dev nD) (d : Fin 8) : sProp 𝕄 :=
  iprop(dutyTok ER (dmaCell c (sendS d)) 0 0 ∗ dutyTok ER (dmaCell (up c d) (recvS d)) 0 0)
/-- for copy `d` of the second operand: its source, its target, the right to pay it; -/
abbrev copyKit (c : Dev nD) (d : Fin 8) : sProp 𝕄 :=
  iprop(owns (c : Thread nD τ) (blkW (down c d)) fullShare (wgt m c d) ∗ (∃ Y, owns (c : Thread nD τ) (blkV d) fullShare Y)
    ∗ dutyTok ER (dmaCell c (wS d)) 0 0)
/-- for its wait: the position at its cell, and where the rounded rows go; -/
abbrev weightKit (c : Dev nD) (d : Fin 8) : sProp 𝕄 :=
  iprop(atPos ER (dmaCell c (wS d)) 0 ∅ 0 ∗ ∃ Y, owns (c : Thread nD τ) (blkB d) fullShare Y)
/-- for the wait on slot `d`: the credit, none for the slot no transfer fills, and the position. -/
def slotUnits (d : Fin 8) : ℕ := if d = 0 then 0 else NB
abbrev recvKit (c : Dev nD) (d : Fin 8) : sProp 𝕄 :=
  iprop(cred (tallyAt (dmaCell c (recvS d)) () (slotUnits d)) ∗ atPos ER (dmaCell c (recvS d)) 0 ∅ 0)

def kit (c : Dev nD) (d : Fin 8) : sProp 𝕄 :=
  iprop(sigKit c d ∗ sendKit c d ∗ copyKit m c d ∗ weightKit c d ∗ recvKit c d ∗ atPos ER (dmaCell c (sendS d)) 0 ∅ 0)

/-- Afterwards: the three cells at zero, and every block at its values. -/
def spent (c : Dev nD) (d : Fin 8) : sProp 𝕄 :=
  iprop((semVal (dmaCell c (sendS d)) 0 ∗ semVal (dmaCell c (recvS d)) 0 ∗ semVal (dmaCell c (wS d)) 0)
    ∗ wPay m c d ∗ owns (c : Thread nD τ) (blkB d) fullShare (wgtLow m c d) ∗ recvPay m c d ∗ sendPay m c d)

/-! ## A sum over the places, listed -/

theorem by_place (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

/-! ## Dealing and gathering -/

theorem spent_intro (c : Dev nD) (d : Fin 8) :
    iprop(semVal (dmaCell c (sendS d)) 0 ∗ semVal (dmaCell c (recvS d)) 0 ∗ semVal (dmaCell c (wS d)) 0 ∗ wPay m c d
        ∗ owns (c : Thread nD τ) (blkB d) fullShare (wgtLow m c d) ∗ recvPay m c d ∗ sendPay m c d) ⊢ (spent m c d : sProp 𝕄) := by
  unfold spent
  iintro ⟨F, E, C, D, W, R, X⟩
  isplitl [F E C]
  · isplitl [F]; · iexact F
    isplitl [E] <;> iassumption
  isplitl [D]; · iexact D
  isplitl [W]; · iexact W
  isplitl [R] <;> iassumption

/-- Of a buffer at some contents, as many blocks at some values. -/
theorem deal_slots (c : Dev nD) : iprop(∃ X, (((c : Thread nD τ).loc cc0_scratch3) ↦{fullShare} X) : sProp 𝕄)
    ⊢ bigSep Finset.univ fun d => iprop(∃ Y, owns (c : Thread nD τ) (blkG (-d)) fullShare Y) := by
  have h := cut_some (F := F) c cc0_scratch3 slot (fun _ _ => rfl) slot_disjoint slot_cover
  rw [bigSep_univ_equiv negs] at h
  exact h
theorem deal_v (c : Dev nD) : iprop(∃ X, (((c : Thread nD τ).loc cc0_scratch1) ↦{fullShare} X) : sProp 𝕄)
    ⊢ bigSep Finset.univ fun d => iprop(∃ Y, owns (c : Thread nD τ) (blkV d) fullShare Y) :=
  cut_some (F := F) c cc0_scratch1 rowsW (fun _ _ => rfl) rowsW_disjoint rowsW_cover
theorem deal_b (c : Dev nD) : iprop(∃ X, (((c : Thread nD τ).loc cc0_scratch4) ↦{fullShare} X) : sProp 𝕄)
    ⊢ bigSep Finset.univ fun d => iprop(∃ Y, owns (c : Thread nD τ) (blkB d) fullShare Y) :=
  cut_some (F := F) c cc0_scratch4 rowsW (fun _ _ => rfl) rowsW_disjoint rowsW_cover

/-- Everything the pieces hold afterwards: the second operand as it was, the scratch buffers at some contents. -/
theorem gather (c : Dev nD) : bigSep Finset.univ (spent m c)
    ⊢ iprop((bigSep Finset.univ fun d => iprop(semVal (dmaCell c (sendS d)) 0 ∗ semVal (dmaCell c (recvS d)) 0 ∗ semVal (dmaCell c (wS d)) 0))
        ∗ (((c : Thread nD τ).loc main_arg1) ↦{fullShare} wIn m c)
        ∗ (∃ X, (((c : Thread nD τ).loc cc0_scratch1) ↦{fullShare} X)) ∗ (∃ X, (((c : Thread nD τ).loc cc0_scratch2) ↦{fullShare} X))
        ∗ (∃ X, (((c : Thread nD τ).loc cc0_scratch3) ↦{fullShare} X)) ∗ (∃ X, (((c : Thread nD τ).loc cc0_scratch4) ↦{fullShare} X)) : sProp 𝕄) := by
  unfold spent wPay
  simp only [bigSep_sep']
  iintro ⟨Hz, ⟨HV, HW⟩, HB, HG, HX⟩
  isplitl [Hz]; · iexact Hz
  isplitl [HW]; · iapply (gather_w m c); iexact HW
  isplitl [HV]
  · iapply (paste_some c cc0_scratch1 rowsW (fun _ _ => rfl) rowsW_disjoint rowsW_cover (fun d => wgt m c d)); iexact HV
  isplitl [HX]
  · iexists xLow m c; iapply (gather_x m c); iexact HX
  isplitl [HG]
  · iapply (paste_some c cc0_scratch3 slot (fun _ _ => rfl) slot_disjoint slot_cover (fun d => slab m c d)); unfold recvPay; iexact HG
  · iapply (paste_some c cc0_scratch4 rowsW (fun _ _ => rfl) rowsW_disjoint rowsW_cover (fun d => wgtLow m c d)); iexact HB

end Cert.RowMix

end
-- ==== Proof.Body.lean ====
/- The kernel's body on one device: from the pieces it is dealt to the result in its staging buffer, every cell of its own
   at zero, every block it handed out back. One rule per statement, in program order. -/
module

public import proofs.«01_k».proof.Proof.Pieces

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 26 → ℕ)

/-- What the body starts from, beside the staging buffer and what the device owes: -/
def before (c : Dev nD) : sProp 𝕄 :=
  iprop((records m K ∗ levAts L lv) ∗ (bigSep Finset.univ (kit m c))
    ∗ (cred (tallyAt (barCell c) () 7) ∗ atPos ER (barCell c) 0 ∅ 0)
    ∗ (owns (c : Thread nD τ) xM fullShare (xIn m c) ∗ (∃ Y, owns (c : Thread nD τ) xvM fullShare Y) ∗ dutyTok ER (dmaCell c xS) 0 0)
    ∗ atPos ER (dmaCell c xS) 0 ∅ 0
    ∗ ∃ X, (((c : Thread nD τ).loc cc0_scratch2) ↦{fullShare} X))
/-- and what it ends with. -/
def afterwards (c : Dev nD) : sProp 𝕄 :=
  iprop(bigSep Finset.univ (spent m c) ∗ semVal (barCell c) 0 ∗ semVal (dmaCell c xS) 0 ∗ xPay m c)

/-- The row block a device keeps is at its own rows. -/
theorem ownRows (c : Dev nD) : k0_off2 c = ![128 * (up c 0).val, 0] := by rw [k0_off2_eq]; revert c; decide

set_option maxRecDepth 4000 in
set_option maxHeartbeats 4000000 in
theorem sound_body (c : Dev nD) (Q : PUnit → sProp 𝕄) :
    iprop((before m K c ∗ debts c (dues c) ∗ ∃ X, (((c : Thread nD τ).loc cc0_stg0_0) ↦{fullShare} X))
        ∗ ((afterwards m c ∗ debts c [] ∗ (((c : Thread nD τ).loc cc0_stg0_0) ↦{fullShare} result m c)) -∗ Q ⟨⟩))
      ⊢ runs c (cc0_body xM (Memref.isWhole_whole _) wM (Memref.isWhole_whole _) oM (Memref.isWhole_whole _) xvM (Memref.isWhole_whole _)
          wvM (Memref.isWhole_whole _) xbM (Memref.isWhole_whole _) gM (Memref.isWhole_whole _) wbM (Memref.isWhole_whole _)
          cc0_scratch5 cc0_scratch6 cc0_scratch7 cc0_scratch8) Q := by
  simp only [cc0_body_eq_skeleton]; unfold cc0_body_skel
  unfold before
  rw [by_place]
  simp only [k0_part1_eq_skeleton]; unfold k0_part1_skel
  simp only [semSignalWord, semWaitWord, Prog.lift, Prog.bind_op, Prog.bind_ret, Prog.pure_eq_ret, Prog.bind_assoc, wp_deviceId]
  unfold kit
  iintro ⟨⟨⟨⟨#HK, #Hlev⟩, ⟨⟨⟨-, G0⟩, -, C0, D0, ⟨-, E0⟩, F0⟩, ⟨A1, B1, C1, D1, E1, F1⟩, ⟨A2, B2, C2, D2, E2, F2⟩, ⟨A3, B3, C3, D3, E3, F3⟩,
      ⟨A4, B4, C4, D4, E4, F4⟩, ⟨A5, B5, C5, D5, E5, F5⟩, ⟨A6, B6, C6, D6, E6, F6⟩, ⟨A7, B7, C7, D7, E7, F7⟩⟩, Hbar, Hx, Hatx, Hxb⟩,
    HO, Ho⟩, Hk⟩
  iapply (step_x m K c rfl) $$ [Hx]
  · isplitr; · iexact HK
    iexact Hx
  iintro Hcx
  unfold dues
  iapply (step_signal m K c 1 (by decide) rfl (signal1 c) rfl _) $$ [HO A1]
  · isplitr; · iexact HK
    isplitl [HO] <;> iassumption
  iintro HO
  iapply (step_signal m K c 2 (by decide) rfl (signal2 c) rfl _) $$ [HO A2]
  · isplitr; · iexact HK
    isplitl [HO] <;> iassumption
  iintro HO
  simp only [k0_part2_eq_skeleton]; unfold k0_part2_skel
  simp only [semSignalWord, semWaitWord, Prog.lift, Prog.bind_op, Prog.bind_ret, Prog.pure_eq_ret, Prog.bind_assoc]
  iapply (step_signal m K c 3 (by decide) rfl (signal3 c) rfl _) $$ [HO A3]
  · isplitr; · iexact HK
    isplitl [HO] <;> iassumption
  iintro HO
  iapply (step_signal m K c 4 (by decide) rfl (signal4 c) rfl _) $$ [HO A4]
  · isplitr; · iexact HK
    isplitl [HO] <;> iassumption
  iintro HO
  simp only [k0_part3_eq_skeleton]; unfold k0_part3_skel
  simp only [semSignalWord, semWaitWord, Prog.lift, Prog.bind_op, Prog.bind_ret, Prog.pure_eq_ret, Prog.bind_assoc]
  iapply (step_signal m K c 5 (by decide) rfl (signal5 c) rfl _) $$ [HO A5]
  · isplitr; · iexact HK
    isplitl [HO] <;> iassumption
  iintro HO
  iapply (step_signal m K c 6 (by decide) rfl (signal6 c) rfl _) $$ [HO A6]
  · isplitr; · iexact HK
    isplitl [HO] <;> iassumption
  iintro HO
  iapply (step_signal m K c 7 (by decide) rfl (signal7 c) rfl _) $$ [HO A7]
  · isplitr; · iexact HK
    isplitl [HO] <;> iassumption
  iintro HO
  -- the first operand arrives, is rounded, and is cut into the blocks the devices need
  iapply (step_wait m K c role_x rfl (recvDues c) (fun x h => ⟨(level_recvDues c x h).1, by rw [(level_recvDues c x h).2]; decide⟩) rfl) $$ [HO Hcx Hatx]
  · isplitr; · iexact HK
    isplitr; · iexact Hlev
    isplitl [Hcx]; · iexact Hcx
    isplitl [HO] <;> iassumption
  iintro ⟨HO, Hzx, Hx⟩
  ihave Hx := (show payOf m c 0 .xcopy ⊢ iprop((((c : Thread nD τ).loc cc0_scratch0) ↦{fullShare} xIn m c) ∗ owns (c : Thread nD τ) xM fullShare (xIn m c)) from
    Entails.of_eq (by rw [← owns_whole (c : Thread nD τ) cc0_scratch0]; rfl)) $$ Hx
  icases Hx with ⟨Hxv, Hx⟩
  iapply (load_whole (M := xvM) c (Memref.readAt_unit_zero (Elt F) cc0_scratch0 origin _ (xIn m c))) $$ Hxv
  iintro Hxv
  simp only [k0_part4_eq_skeleton]; unfold k0_part4_skel
  simp only [semSignalWord, semWaitWord, Prog.lift, Prog.bind_op, Prog.bind_ret, Prog.pure_eq_ret, Prog.bind_assoc]
  iapply (step_round m c) $$ Hxb
  iintro HX
  ihave HX := (Entails.of_eq (by_place (F := F) (sendPay m c))) $$ HX
  icases HX with ⟨X0, X1, X2, X3, X4, X5, X6, X7⟩
  -- the barrier: every other device's slot for this one's rows
  icases Hbar with ⟨Hcb, Hatb⟩
  iapply (step_barrier m K c rfl (recvDues c) (fun x h => ⟨(level_recvDues c x h).1, by rw [(level_recvDues c x h).2]; decide⟩)) $$ [HO Hcb Hatb]
  · isplitr; · iexact HK
    isplitr; · iexact Hlev
    isplitl [Hcb]; · iexact Hcb
    isplitl [HO] <;> iassumption
  iintro ⟨HO, Hzb, S1, S2, S3, S4, S5, S6, S7⟩
  unfold recvDues
  iapply (step_send m K c 1 (by decide) (target1 c) (sendRows c 0) rfl rfl rfl _) $$ [HO X1 S1 B1]
  · isplitr; · iexact HK
    isplitl [X1]; · iexact X1
    isplitl [S1]; · iexact S1
    isplitl [HO] <;> iassumption
  iintro ⟨S1, HO⟩
  simp only [k0_part5_eq_skeleton]; unfold k0_part5_skel
  simp only [semSignalWord, semWaitWord, Prog.lift, Prog.bind_op, Prog.bind_ret, Prog.pure_eq_ret, Prog.bind_assoc]
  iapply (step_send m K c 2 (by decide) (target2 c) (sendRows c 1) rfl rfl rfl _) $$ [HO X2 S2 B2]
  · isplitr; · iexact HK
    isplitl [X2]; · iexact X2
    isplitl [S2]; · iexact S2
    isplitl [HO] <;> iassumption
  iintro ⟨S2, HO⟩
  simp only [k0_part6_eq_skeleton]; unfold k0_part6_skel
  simp only [semSignalWord, semWaitWord, Prog.lift, Prog.bind_op, Prog.bind_ret, Prog.pure_eq_ret, Prog.bind_assoc]
  iapply (step_send m K c 3 (by decide) (target3 c) (sendRows c 2) rfl rfl rfl _) $$ [HO X3 S3 B3]
  · isplitr; · iexact HK
    isplitl [X3]; · iexact X3
    isplitl [S3]; · iexact S3
    isplitl [HO] <;> iassumption
  iintro ⟨S3, HO⟩
  iapply (step_send m K c 4 (by decide) (target4 c) (sendRows c 3) rfl rfl rfl _) $$ [HO X4 S4 B4]
  · isplitr; · iexact HK
    isplitl [X4]; · iexact X4
    isplitl [S4]; · iexact S4
    isplitl [HO] <;> iassumption
  iintro ⟨S4, HO⟩
  simp only [k0_part7_eq_skeleton]; unfold k0_part7_skel
  simp only [semSignalWord, semWaitWord, Prog.lift, Prog.bind_op, Prog.bind_ret, Prog.pure_eq_ret, Prog.bind_assoc]
  iapply (step_send m K c 5 (by decide) (target5 c) (sendRows c 4) rfl rfl rfl _) $$ [HO X5 S5 B5]
  · isplitr; · iexact HK
    isplitl [X5]; · iexact X5
    isplitl [S5]; · iexact S5
    isplitl [HO] <;> iassumption
  iintro ⟨S5, HO⟩
  iapply (step_send m K c 6 (by decide) (target6 c) (sendRows c 5) rfl rfl rfl _) $$ [HO X6 S6 B6]
  · isplitr; · iexact HK
    isplitl [X6]; · iexact X6
    isplitl [S6]; · iexact S6
    isplitl [HO] <;> iassumption
  iintro ⟨S6, HO⟩
  simp only [k0_part8_eq_skeleton]; unfold k0_part8_skel
  simp only [semSignalWord, semWaitWord, Prog.lift, Prog.bind_op, Prog.bind_ret, Prog.pure_eq_ret, Prog.bind_assoc]
  iapply (step_send m K c 7 (by decide) (target7 c) (sendRows c 6) rfl rfl rfl _) $$ [HO X7 S7 B7]
  · isplitr; · iexact HK
    isplitl [X7]; · iexact X7
    isplitl [S7]; · iexact S7
    isplitl [HO] <;> iassumption
  iintro ⟨S7, HO⟩
  -- the device's own rows
  ihave G0 := (show iprop(∃ Y, owns (c : Thread nD τ) (blkG (-0)) fullShare Y) ⊢ iprop(∃ Y, owns (c : Thread nD τ) (blkG 0) fullShare Y) from Entails.of_eq rfl) $$ G0
  iapply (step_own m c (ownRows c) rfl) $$ [X0 G0]
  · isplitl [X0] <;> iassumption
  iintro ⟨X0, R0⟩
  -- the second operand's copies
  simp only [k0_part9_eq_skeleton]; unfold k0_part9_skel
  simp only [semSignalWord, semWaitWord, Prog.lift, Prog.bind_op, Prog.bind_ret, Prog.pure_eq_ret, Prog.bind_assoc]
  iapply (step_w m K c 0 (weightRows c 0) rfl rfl) $$ [C0]
  · isplitr; · iexact HK
    iexact C0
  iintro C0
  iapply (step_w m K c 1 (weightRows c 1) rfl rfl) $$ [C1]
  · isplitr; · iexact HK
    iexact C1
  iintro C1
  simp only [k0_part10_eq_skeleton]; unfold k0_part10_skel
  simp only [semSignalWord, semWaitWord, Prog.lift, Prog.bind_op, Prog.bind_ret, Prog.pure_eq_ret, Prog.bind_assoc]
  iapply (step_w m K c 2 (weightRows c 2) rfl rfl) $$ [C2]
  · isplitr; · iexact HK
    iexact C2
  iintro C2
  iapply (step_w m K c 3 (weightRows c 3) rfl rfl) $$ [C3]
  · isplitr; · iexact HK
    iexact C3
  iintro C3
  simp only [k0_part11_eq_skeleton]; unfold k0_part11_skel
  simp only [semSignalWord, semWaitWord, Prog.lift, Prog.bind_op, Prog.bind_ret, Prog.pure_eq_ret, Prog.bind_assoc]
  iapply (step_w m K c 4 (weightRows c 4) rfl rfl) $$ [C4]
  · isplitr; · iexact HK
    iexact C4
  iintro C4
  iapply (step_w m K c 5 (weightRows c 5) rfl rfl) $$ [C5]
  · isplitr; · iexact HK
    iexact C5
  iintro C5
  simp only [k0_part12_eq_skeleton]; unfold k0_part12_skel
  simp only [semSignalWord, semWaitWord, Prog.lift, Prog.bind_op, Prog.bind_ret, Prog.pure_eq_ret, Prog.bind_assoc]
  iapply (step_w m K c 6 (weightRows c 6) rfl rfl) $$ [C6]
  · isplitr; · iexact HK
    iexact C6
  iintro C6
  iapply (step_w m K c 7 (weightRows c 7) rfl rfl) $$ [C7]
  · isplitr; · iexact HK
    iexact C7
  iintro C7
  -- the accumulation
  iapply (step_weights m K c 0 rfl rfl rfl rfl) $$ [HO C0 D0]
  · isplitr; · iexact HK
    isplitr; · iexact Hlev
    isplitl [C0]; · iexact C0
    isplitl [HO] <;> iassumption
  iintro ⟨HO, C0, D0, W0⟩
  simp only [k0_part13_eq_skeleton]; unfold k0_part13_skel
  simp only [semSignalWord, semWaitWord, Prog.lift, Prog.bind_op, Prog.bind_ret, Prog.pure_eq_ret, Prog.bind_assoc]
  iapply (step_first m c rfl rfl) $$ [R0 W0 Ho]
  · isplitl [R0]; · iexact R0
    isplitl [W0] <;> iassumption
  iintro ⟨R0, W0, Ho⟩
  iapply (step_weights m K c 1 rfl rfl rfl rfl) $$ [HO C1 D1]
  · isplitr; · iexact HK
    isplitr; · iexact Hlev
    isplitl [C1]; · iexact C1
    isplitl [HO] <;> iassumption
  iintro ⟨HO, C1, D1, W1⟩
  simp only [k0_part14_eq_skeleton]; unfold k0_part14_skel
  simp only [semSignalWord, semWaitWord, Prog.lift, Prog.bind_op, Prog.bind_ret, Prog.pure_eq_ret, Prog.bind_assoc]
  icases E1 with ⟨R1, E1⟩
  iapply (step_add m K c 1 (by decide) rfl rfl rfl _ rfl rfl) $$ [HO R1 E1 W1 Ho]
  · isplitr; · iexact HK
    isplitr; · iexact Hlev
    isplitl [R1]; · iexact R1
    isplitl [HO]; · iexact HO
    isplitl [E1]; · iexact E1
    isplitl [W1] <;> iassumption
  iintro ⟨HO, E1, R1, W1, Ho⟩
  iapply (step_weights m K c 2 rfl rfl rfl rfl) $$ [HO C2 D2]
  · isplitr; · iexact HK
    isplitr; · iexact Hlev
    isplitl [C2]; · iexact C2
    isplitl [HO] <;> iassumption
  iintro ⟨HO, C2, D2, W2⟩
  simp only [k0_part15_eq_skeleton]; unfold k0_part15_skel
  simp only [semSignalWord, semWaitWord, Prog.lift, Prog.bind_op, Prog.bind_ret, Prog.pure_eq_ret, Prog.bind_assoc]
  icases E2 with ⟨R2, E2⟩
  iapply (step_add m K c 2 (by decide) rfl rfl rfl _ rfl rfl) $$ [HO R2 E2 W2 Ho]
  · isplitr; · iexact HK
    isplitr; · iexact Hlev
    isplitl [R2]; · iexact R2
    isplitl [HO]; · iexact HO
    isplitl [E2]; · iexact E2
    isplitl [W2] <;> iassumption
  iintro ⟨HO, E2, R2, W2, Ho⟩
  iapply (step_weights m K c 3 rfl rfl rfl rfl) $$ [HO C3 D3]
  · isplitr; · iexact HK
    isplitr; · iexact Hlev
    isplitl [C3]; · iexact C3
    isplitl [HO] <;> iassumption
  iintro ⟨HO, C3, D3, W3⟩
  icases E3 with ⟨R3, E3⟩
  iapply (step_add m K c 3 (by decide) rfl rfl rfl _ rfl rfl) $$ [HO R3 E3 W3 Ho]
  · isplitr; · iexact HK
    isplitr; · iexact Hlev
    isplitl [R3]; · iexact R3
    isplitl [HO]; · iexact HO
    isplitl [E3]; · iexact E3
    isplitl [W3] <;> iassumption
  iintro ⟨HO, E3, R3, W3, Ho⟩
  simp only [k0_part16_eq_skeleton]; unfold k0_part16_skel
  simp only [semSignalWord, semWaitWord, Prog.lift, Prog.bind_op, Prog.bind_ret, Prog.pure_eq_ret, Prog.bind_assoc]
  iapply (step_weights m K c 4 rfl rfl rfl rfl) $$ [HO C4 D4]
  · isplitr; · iexact HK
    isplitr; · iexact Hlev
    isplitl [C4]; · iexact C4
    isplitl [HO] <;> iassumption
  iintro ⟨HO, C4, D4, W4⟩
  icases E4 with ⟨R4, E4⟩
  iapply (step_add m K c 4 (by decide) rfl rfl rfl _ rfl rfl) $$ [HO R4 E4 W4 Ho]
  · isplitr; · iexact HK
    isplitr; · iexact Hlev
    isplitl [R4]; · iexact R4
    isplitl [HO]; · iexact HO
    isplitl [E4]; · iexact E4
    isplitl [W4] <;> iassumption
  iintro ⟨HO, E4, R4, W4, Ho⟩
  simp only [k0_part17_eq_skeleton]; unfold k0_part17_skel
  simp only [semSignalWord, semWaitWord, Prog.lift, Prog.bind_op, Prog.bind_ret, Prog.pure_eq_ret, Prog.bind_assoc]
  iapply (step_weights m K c 5 rfl rfl rfl rfl) $$ [HO C5 D5]
  · isplitr; · iexact HK
    isplitr; · iexact Hlev
    isplitl [C5]; · iexact C5
    isplitl [HO] <;> iassumption
  iintro ⟨HO, C5, D5, W5⟩
  icases E5 with ⟨R5, E5⟩
  iapply (step_add m K c 5 (by decide) rfl rfl rfl _ rfl rfl) $$ [HO R5 E5 W5 Ho]
  · isplitr; · iexact HK
    isplitr; · iexact Hlev
    isplitl [R5]; · iexact R5
    isplitl [HO]; · iexact HO
    isplitl [E5]; · iexact E5
    isplitl [W5] <;> iassumption
  iintro ⟨HO, E5, R5, W5, Ho⟩
  simp only [k0_part18_eq_skeleton]; unfold k0_part18_skel
  simp only [semSignalWord, semWaitWord, Prog.lift, Prog.bind_op, Prog.bind_ret, Prog.pure_eq_ret, Prog.bind_assoc]
  iapply (step_weights m K c 6 rfl rfl rfl rfl) $$ [HO C6 D6]
  · isplitr; · iexact HK
    isplitr; · iexact Hlev
    isplitl [C6]; · iexact C6
    isplitl [HO] <;> iassumption
  iintro ⟨HO, C6, D6, W6⟩
  icases E6 with ⟨R6, E6⟩
  iapply (step_add m K c 6 (by decide) rfl rfl rfl _ rfl rfl) $$ [HO R6 E6 W6 Ho]
  · isplitr; · iexact HK
    isplitr; · iexact Hlev
    isplitl [R6]; · iexact R6
    isplitl [HO]; · iexact HO
    isplitl [E6]; · iexact E6
    isplitl [W6] <;> iassumption
  iintro ⟨HO, E6, R6, W6, Ho⟩
  iapply (step_weights m K c 7 rfl rfl rfl rfl) $$ [HO C7 D7]
  · isplitr; · iexact HK
    isplitr; · iexact Hlev
    isplitl [C7]; · iexact C7
    isplitl [HO] <;> iassumption
  iintro ⟨HO, C7, D7, W7⟩
  simp only [k0_part19_eq_skeleton]; unfold k0_part19_skel
  simp only [semSignalWord, semWaitWord, Prog.lift, Prog.bind_op, Prog.bind_ret, Prog.pure_eq_ret, Prog.bind_assoc]
  icases E7 with ⟨R7, E7⟩
  iapply (step_add m K c 7 (by decide) rfl rfl rfl _ rfl rfl) $$ [HO R7 E7 W7 Ho]
  · isplitr; · iexact HK
    isplitr; · iexact Hlev
    isplitl [R7]; · iexact R7
    isplitl [HO]; · iexact HO
    isplitl [E7]; · iexact E7
    isplitl [W7] <;> iassumption
  iintro ⟨HO, E7, R7, W7, Ho⟩
  -- every send awaited
  iapply (step_wait m K c (role_send (d := 1) (by decide)) rfl [] (fun _ h => absurd h List.not_mem_nil) rfl) $$ [HO S1 F1]
  · isplitr; · iexact HK
    isplitr; · iexact Hlev
    isplitl [S1]; · iexact S1
    isplitl [HO] <;> iassumption
  iintro ⟨HO, F1, X1⟩
  ihave X1 := (show payOf m c 0 (.send 1) ⊢ (sendPay m c 1 : sProp 𝕄) from Entails.of_eq rfl) $$ X1
  simp only [k0_part20_eq_skeleton]; unfold k0_part20_skel
  simp only [semSignalWord, semWaitWord, Prog.lift, Prog.bind_op, Prog.bind_ret, Prog.pure_eq_ret, Prog.bind_assoc]
  iapply (step_wait m K c (role_send (d := 2) (by decide)) rfl [] (fun _ h => absurd h List.not_mem_nil) rfl) $$ [HO S2 F2]
  · isplitr; · iexact HK
    isplitr; · iexact Hlev
    isplitl [S2]; · iexact S2
    isplitl [HO] <;> iassumption
  iintro ⟨HO, F2, X2⟩
  ihave X2 := (show payOf m c 0 (.send 2) ⊢ (sendPay m c 2 : sProp 𝕄) from Entails.of_eq rfl) $$ X2
  iapply (step_wait m K c (role_send (d := 3) (by decide)) rfl [] (fun _ h => absurd h List.not_mem_nil) rfl) $$ [HO S3 F3]
  · isplitr; · iexact HK
    isplitr; · iexact Hlev
    isplitl [S3]; · iexact S3
    isplitl [HO] <;> iassumption
  iintro ⟨HO, F3, X3⟩
  ihave X3 := (show payOf m c 0 (.send 3) ⊢ (sendPay m c 3 : sProp 𝕄) from Entails.of_eq rfl) $$ X3
  iapply (step_wait m K c (role_send (d := 4) (by decide)) rfl [] (fun _ h => absurd h List.not_mem_nil) rfl) $$ [HO S4 F4]
  · isplitr; · iexact HK
    isplitr; · iexact Hlev
    isplitl [S4]; · iexact S4
    isplitl [HO] <;> iassumption
  iintro ⟨HO, F4, X4⟩
  ihave X4 := (show payOf m c 0 (.send 4) ⊢ (sendPay m c 4 : sProp 𝕄) from Entails.of_eq rfl) $$ X4
  iapply (step_wait m K c (role_send (d := 5) (by decide)) rfl [] (fun _ h => absurd h List.not_mem_nil) rfl) $$ [HO S5 F5]
  · isplitr; · iexact HK
    isplitr; · iexact Hlev
    isplitl [S5]; · iexact S5
    isplitl [HO] <;> iassumption
  iintro ⟨HO, F5, X5⟩
  ihave X5 := (show payOf m c 0 (.send 5) ⊢ (sendPay m c 5 : sProp 𝕄) from Entails.of_eq rfl) $$ X5
  iapply (step_wait m K c (role_send (d := 6) (by decide)) rfl [] (fun _ h => absurd h List.not_mem_nil) rfl) $$ [HO S6 F6]
  · isplitr; · iexact HK
    isplitr; · iexact Hlev
    isplitl [S6]; · iexact S6
    isplitl [HO] <;> iassumption
  iintro ⟨HO, F6, X6⟩
  ihave X6 := (show payOf m c 0 (.send 6) ⊢ (sendPay m c 6 : sProp 𝕄) from Entails.of_eq rfl) $$ X6
  iapply (step_wait m K c (role_send (d := 7) (by decide)) rfl [] (fun _ h => absurd h List.not_mem_nil) rfl) $$ [HO S7 F7]
  · isplitr; · iexact HK
    isplitr; · iexact Hlev
    isplitl [S7]; · iexact S7
    isplitl [HO] <;> iassumption
  iintro ⟨HO, F7, X7⟩
  ihave X7 := (show payOf m c 0 (.send 7) ⊢ (sendPay m c 7 : sProp 𝕄) from Entails.of_eq rfl) $$ X7
  -- the cells no transfer uses
  imod (close_idle m K c (q := sendS 0) (by decide) (by decide)) $$ [F0] with F0
  · isplitr; · iexact HK
    iexact F0
  imod (close_idle m K c (q := recvS 0) (by decide) (by decide)) $$ [E0] with E0
  · isplitr; · iexact HK
    iexact E0
  rw [wp_ret]; imodintro
  iapply Hk
  unfold result
  isplitr [HO Ho]
  · unfold afterwards
    isplitr [Hzb Hzx Hxv Hx]
    · iapply (Entails.of_eq (by_place (F := F) (spent m c)).symm)
      isplitl [F0 E0 C0 D0 W0 R0 X0]
      · iapply (spent_intro m c 0) $$ [F0 E0 C0 D0 W0 R0 X0]
        isplitl [F0]; · iexact F0
        isplitl [E0]; · iexact E0
        isplitl [C0]; · iexact C0
        isplitl [D0]; · iexact D0
        isplitl [W0]; · iexact W0
        isplitl [R0] <;> iassumption
      isplitl [F1 E1 C1 D1 W1 R1 X1]
      · iapply (spent_intro m c 1) $$ [F1 E1 C1 D1 W1 R1 X1]
        isplitl [F1]; · iexact F1
        isplitl [E1]; · iexact E1
        isplitl [C1]; · iexact C1
        isplitl [D1]; · iexact D1
        isplitl [W1]; · iexact W1
        isplitl [R1] <;> iassumption
      isplitl [F2 E2 C2 D2 W2 R2 X2]
      · iapply (spent_intro m c 2) $$ [F2 E2 C2 D2 W2 R2 X2]
        isplitl [F2]; · iexact F2
        isplitl [E2]; · iexact E2
        isplitl [C2]; · iexact C2
        isplitl [D2]; · iexact D2
        isplitl [W2]; · iexact W2
        isplitl [R2] <;> iassumption
      isplitl [F3 E3 C3 D3 W3 R3 X3]
      · iapply (spent_intro m c 3) $$ [F3 E3 C3 D3 W3 R3 X3]
        isplitl [F3]; · iexact F3
        isplitl [E3]; · iexact E3
        isplitl [C3]; · iexact C3
        isplitl [D3]; · iexact D3
        isplitl [W3]; · iexact W3
        isplitl [R3] <;> iassumption
      isplitl [F4 E4 C4 D4 W4 R4 X4]
      · iapply (spent_intro m c 4) $$ [F4 E4 C4 D4 W4 R4 X4]
        isplitl [F4]; · iexact F4
        isplitl [E4]; · iexact E4
        isplitl [C4]; · iexact C4
        isplitl [D4]; · iexact D4
        isplitl [W4]; · iexact W4
        isplitl [R4] <;> iassumption
      isplitl [F5 E5 C5 D5 W5 R5 X5]
      · iapply (spent_intro m c 5) $$ [F5 E5 C5 D5 W5 R5 X5]
        isplitl [F5]; · iexact F5
        isplitl [E5]; · iexact E5
        isplitl [C5]; · iexact C5
        isplitl [D5]; · iexact D5
        isplitl [W5]; · iexact W5
        isplitl [R5] <;> iassumption
      isplitl [F6 E6 C6 D6 W6 R6 X6]
      · iapply (spent_intro m c 6) $$ [F6 E6 C6 D6 W6 R6 X6]
        isplitl [F6]; · iexact F6
        isplitl [E6]; · iexact E6
        isplitl [C6]; · iexact C6
        isplitl [D6]; · iexact D6
        isplitl [W6]; · iexact W6
        isplitl [R6] <;> iassumption
      iapply (spent_intro m c 7) $$ [F7 E7 C7 D7 W7 R7 X7]
      isplitl [F7]; · iexact F7
      isplitl [E7]; · iexact E7
      isplitl [C7]; · iexact C7
      isplitl [D7]; · iexact D7
      isplitl [W7]; · iexact W7
      isplitl [R7] <;> iassumption
    · isplitl [Hzb]; · iexact Hzb
      isplitl [Hzx]; · iexact Hzx
      unfold xPay
      isplitl [Hxv]
      · rw [owns_whole (c : Thread nD τ) cc0_scratch0]; iexact Hxv
      · iexact Hx
  · isplitl [HO] <;> iassumption

end Cert.RowMix

end
-- ==== Proof.Cells.lean ====
/- The cells at launch: the transfer semaphores sorted by what they are for, the rights to pay minted per owner and dealt to
   the devices that pay, the credits each device's waits need, and the invariants allocated for all devices at once. -/
module

public import proofs.«01_k».proof.Proof.Pieces
public import proofs.«01_k».proof.Proof.Gen.KernelIdeal.Launch

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ)

/-! ## The semaphores by kind -/

/-- The kernel's own semaphores: every transfer semaphore but the pipeline's. -/
abbrev osem : Fin 25 → SemLoc sig := fun k => .dma (Fin.succ k : Fin 26)

theorem ownSemFacts : Pipeline.OwnSemFacts cfg0.spec osem := by decide

theorem flat_right (P Q R : sProp 𝕄) : iprop((P ∗ Q) ∗ R) ⊢ iprop(P ∗ Q ∗ R) := by
  iintro ⟨⟨HP, HQ⟩, HR⟩
  isplitl [HP]; · iexact HP
  isplitl [HQ] <;> iassumption
theorem flat_left (P Q R : sProp 𝕄) : iprop(P ∗ Q ∗ R) ⊢ iprop((P ∗ Q) ∗ R) := by
  iintro ⟨HP, HQ, HR⟩
  isplitl [HP HQ]
  · isplitl [HP] <;> iassumption
  iexact HR
theorem flat (P Q R : sProp 𝕄) : iprop((P ∗ Q) ∗ R) = iprop(P ∗ Q ∗ R) := equiv_iff.mp ⟨flat_right P Q R, flat_left P Q R⟩

/-- A sum over them is a sum over the sends, the receives, the first operand's and the second's. -/
theorem by_kind (Φ : Fin 26 → sProp 𝕄) : (bigSep Finset.univ fun k : Fin 25 => Φ k.succ)
    = iprop((bigSep Finset.univ fun d => Φ (sendS d)) ∗ (bigSep Finset.univ fun d => Φ (recvS d)) ∗ Φ xS ∗ bigSep Finset.univ fun d => Φ (wS d)) := by
  rw [by_place (F := F) (fun d => Φ (sendS d)), by_place (F := F) (fun d => Φ (recvS d)), by_place (F := F) (fun d => Φ (wS d)),
    bigSep_univ_eq_bigSepL [0, 1, 2, 3, 4, 5, 6, 7, 8, 9, 10, 11, 12, 13, 14, 15, 16, 17, 18, 19, 20, 21, 22, 23, 24] (by decide) (by decide)]
  simp only [flat]
  rfl

/-- A sum over all the cells is the barrier's beside that. -/
theorem by_cell (Φ : Fin 26 → sProp 𝕄) : bigSep Finset.univ Φ = iprop(Φ 0 ∗ bigSep Finset.univ fun k : Fin 25 => Φ k.succ) := by
  rw [bigSep_univ_at Φ 0, show (Finset.univ.erase 0 : Finset (Fin 26)) = Finset.univ.map ⟨Fin.succ, Fin.succ_injective 25⟩ from by decide, bigSep_map]
  rfl

theorem ownSems0_eq (c : Dev nD) : (Pipeline.ownSems0 (Ix := Unit) (Name := ℕ) (U := UU) (Lvl := ℕ) (Val := Elt F) (τ := τ) osem c : sProp 𝕄)
    = bigSep Finset.univ fun k : Fin 25 => semVal (dmaCell c k.succ) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem kcell_succ (c : Dev nD) (k : Fin 25) : kcell (c, k.succ) = dmaCell c k.succ := kcell_dma c (Fin.succ_ne_zero k)

theorem all_at_zero (c : Dev nD) :
    iprop(Pipeline.ownSems0 (Ix := Unit) (Name := ℕ) (U := UU) (Lvl := ℕ) (Val := Elt F) (τ := τ) osem c ∗ unscopedSems0 c)
      ⊢ (bigSep Finset.univ fun k : Fin 26 => semVal (kcell (c, k)) 0 : sProp 𝕄) := by
  rw [ownSems0_eq, unscopedSems0_eq, by_cell]
  simp only [kcell_succ, kcell_bar]
  iintro ⟨HS, HB⟩
  isplitl [HB] <;> iassumption

/-! ## Cells and tokens -/

theorem kcell_injective : Function.Injective kcell := by
  rintro ⟨c, k⟩ ⟨c', k'⟩ h
  have h1 : c = c' := congrArg (fun g : GSem nD τ sig => g.1.1) h
  have h2 : cellSem k = cellSem k' := congrArg Prod.snd h
  have h3 : ∀ k k' : Fin 26, cellSem k = cellSem k' → k = k' := by decide +kernel
  rw [h1, h3 k k' h2]
def allCells : Finset (GSem nD τ sig) := Finset.univ.map ⟨kcell, kcell_injective⟩

/-- A device's duties: which cell, which duty of it. The barrier's eight, one of each send, receive and copy of the second
    operand, and the first operand's (eight, of which one is used). -/
def dutyAt : Fin 5 × Fin 8 → SemLoc sig × Fin 8
  | (0, d) => (.reg barS, d)
  | (1, d) => (.dma (sendS d), 0)
  | (2, d) => (.dma (recvS d), 0)
  | (3, d) => (.dma (wS d), 0)
  | (4, d) => (.dma xS, d)

theorem dutyAt_injective : Function.Injective dutyAt := by
  have h : ∀ a b : Fin 5, ∀ d e : Fin 8, dutyAt (a, d) = dutyAt (b, e) → a = b ∧ d = e := by decide +kernel
  rintro ⟨a, d⟩ ⟨b, e⟩ hh
  obtain ⟨rfl, rfl⟩ := h a b d e hh; rfl

def tokenOf (p : Dev nD × (Fin 5 × Fin 8)) : GSem nD τ sig × ℕ × Fin 8 := (((p.1 : Thread nD τ), (dutyAt p.2).1), 0, (dutyAt p.2).2)

theorem tokenOf_injective : Function.Injective tokenOf := by
  rintro ⟨c, p⟩ ⟨c', p'⟩ h
  have h1 : c = c' := congrArg (fun x : GSem nD τ sig × ℕ × Fin 8 => x.1.1.1) h
  have h2 : dutyAt p = dutyAt p' := congrArg (fun x : GSem nD τ sig × ℕ × Fin 8 => (x.1.2, x.2.2)) h
  rw [h1, dutyAt_injective h2]
def allTokens : Finset (GSem nD τ sig × ℕ × Fin 8) := Finset.univ.map ⟨tokenOf, tokenOf_injective⟩

def u₀ : UU :=
  (initOf (Pipeline.cells cfgs cellOf_inj) (Pipeline.launchToks cfgs cellOf_inj), initOf allCells allTokens)

/-- The rights to pay device `c`'s own duties, as minted, -/
def ownedToks (c : Dev nD) : sProp 𝕄 :=
  iprop((bigSep Finset.univ fun d => dutyTok ER (barCell c) 0 d) ∗ (bigSep Finset.univ fun d => dutyTok ER (dmaCell c (sendS d)) 0 0)
    ∗ (bigSep Finset.univ fun d => dutyTok ER (dmaCell c (recvS d)) 0 0) ∗ (bigSep Finset.univ fun d => dutyTok ER (dmaCell c (wS d)) 0 0)
    ∗ bigSep Finset.univ fun d => dutyTok ER (dmaCell c xS) 0 d)
/-- and the rights device `c` pays with. -/
def paidToks (c : Dev nD) : sProp 𝕄 :=
  iprop((bigSep Finset.univ fun d => dutyTok ER (barCell (up c d)) 0 (-d)) ∗ (bigSep Finset.univ fun d => dutyTok ER (dmaCell c (sendS d)) 0 0)
    ∗ (bigSep Finset.univ fun d => dutyTok ER (dmaCell (up c d) (recvS d)) 0 0) ∗ (bigSep Finset.univ fun d => dutyTok ER (dmaCell c (wS d)) 0 0)
    ∗ dutyTok ER (dmaCell c xS) 0 0)

/-- What the launch element deals device `c`. -/
def dealt (c : Dev nD) : sProp 𝕄 :=
  iprop((bigSep Finset.univ fun k : Fin 26 => roundState ER (sched m) (kcell (c, k)) 0)
    ∗ (bigSep Finset.univ fun k : Fin 26 => iprop(atPos ER (kcell (c, k)) 0 ∅ 0 ∗ reached ER (kcell (c, k)) 0)) ∗ ownedToks c)

theorem by_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem mint : BI.own (ER (initOf allCells allTokens)) ⊢ (|==> bigSep Finset.univ (dealt m) : sProp 𝕄) := by
  have hX (Φ : GSem nD τ sig → sProp 𝕄) : bigSep allCells Φ = bigSep Finset.univ fun c : Dev nD => bigSep Finset.univ fun k : Fin 26 => Φ (kcell (c, k)) := by
    unfold allCells; rw [bigSep_map, bigSep_univ_prod]; rfl
  have hT : bigSep allTokens (fun x => (dutyTok ER x.1 x.2.1 x.2.2 : sProp 𝕄)) = bigSep Finset.univ fun c : Dev nD => ownedToks c := by
    unfold allTokens; rw [bigSep_map, bigSep_univ_prod]
    exact bigSep_congr fun c _ => by unfold ownedToks; rw [bigSep_univ_prod, by_five]; rfl
  iintro HX
  imod (Rounds.fund ER (sched m) allCells allTokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- Going up by the second component, and turning it round: the payer of duty `e` of device `a`'s barrier. -/
def toPayer : Dev nD × Fin 8 ≃ Dev nD × Fin 8 :=
  ⟨fun p => (up p.1 p.2, -p.2), fun p => (up p.1 p.2, -p.2),
    fun p => by rcases p with ⟨c, d⟩; revert c d; decide, fun p => by rcases p with ⟨c, d⟩; revert c d; decide⟩
/-- Going up by the second component: the target of the copy by `d` places. -/
def toTarget : Dev nD × Fin 8 ≃ Dev nD × Fin 8 :=
  ⟨fun p => (up p.1 p.2, p.2), fun p => (down p.1 p.2, p.2), fun p => Prod.ext (down_up p.1 p.2) rfl, fun p => Prod.ext (up_down p.1 p.2) rfl⟩

theorem deal_along (e : Dev nD × Fin 8 ≃ Dev nD × Fin 8) (Φ : Dev nD → Fin 8 → sProp 𝕄) :
    (bigSep Finset.univ fun c => bigSep Finset.univ fun d => Φ c d)
      = bigSep Finset.univ fun c => bigSep Finset.univ fun d => Φ (e (c, d)).1 (e (c, d)).2 := by
  rw [← bigSep_univ_prod (fun p : Dev nD × Fin 8 => Φ p.1 p.2), bigSep_univ_equiv e, bigSep_univ_prod]

/-- The rights minted are the rights paid with, dealt to their payers. -/
theorem deal_toks : (bigSep Finset.univ fun c : Dev nD => (ownedToks c : sProp 𝕄)) ⊢ bigSep Finset.univ fun c : Dev nD => paidToks c := by
  unfold ownedToks paidToks
  simp only [bigSep_sep' (Finset.univ : Finset (Dev nD))]
  rw [deal_along toPayer (fun c d => (dutyTok ER (barCell c) 0 d : sProp 𝕄)), deal_along toTarget (fun c d => (dutyTok ER (dmaCell c (recvS d)) 0 0 : sProp 𝕄))]
  iintro ⟨H1, H2, H3, H4, H5⟩
  isplitl [H1]; · iexact H1
  isplitl [H2]; · iexact H2
  isplitl [H3]; · iexact H3
  isplitl [H4]; · iexact H4
  iapply (show (bigSep Finset.univ fun c : Dev nD => bigSep Finset.univ fun d : Fin 8 => (dutyTok ER (dmaCell c xS) 0 d : sProp 𝕄))
    ⊢ bigSep Finset.univ fun c : Dev nD => dutyTok ER (dmaCell c xS) 0 0 from bigSep_mono fun c _ => bigSep_elim (Finset.mem_univ _))
  iexact H5

/-! ## The invariants, for all devices at once -/

/-- A device's positions at its cells and the rights it pays with. -/
def own (c : Dev nD) : sProp 𝕄 := iprop((bigSep Finset.univ fun k : Fin 26 => atPos ER (kcell (c, k)) 0 ∅ 0) ∗ paidToks c)
/-- What each device starts from. -/
def started (c : Dev nD) : sProp 𝕄 := iprop(∃ K, records m K ∗ own c)

theorem allocate (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownedToks c) := by
  unfold dealt
  iintro ⟨Hos, Hus, Hst, Hat, Htok⟩
  ihave Hv := (all_at_zero (F := F) c) $$ [Hos Hus]
  · isplitl [Hos] <;> iassumption
  imod (show iprop((bigSep Finset.univ fun k : Fin 26 => semVal (kcell (c, k)) 0) ∗ bigSep Finset.univ fun k : Fin 26 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A persistent fact given to every member of a sum. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem started_intro (K : Dev nD × Fin 26 → ℕ) (c : Dev nD) : iprop(records m K ∗ own c) ⊢ started m c := by
  unfold started
  iintro H; iexists K; iexact H

theorem share_out :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownedToks c) : sProp 𝕄)
      ⊢ bigSep Finset.univ (started m) := by
  rw [bigSep_sep', bigSep_sep', ← bigSep_univ_prod (fun ck : Dev nD × Fin 26 => iprop(∃ κ : ℕ, cellInv ER (sched m) κ (kcell ck))),
    bigSep_congr (s := Finset.univ) (fun (c : Dev nD) _ => bigSep_sep' Finset.univ (fun k : Fin 26 => (atPos ER (kcell (c, k)) 0 ∅ 0 : sProp 𝕄)) (fun k => reached ER (kcell (c, k)) 0)),
    bigSep_sep', ← bigSep_univ_prod (fun ck : Dev nD × Fin 26 => (reached ER (kcell ck) 0 : sProp 𝕄))]
  iintro ⟨HI, ⟨Hat, #HR⟩, Htok⟩
  ihave HK := (BI.bigSep_exists_pi Finset.univ (fun (ck : Dev nD × Fin 26) (κ : ℕ) => (cellInv ER (sched m) κ (kcell ck) : sProp 𝕄))) $$ HI
  icases HK with ⟨%K, #HI⟩
  ihave Htk := (deal_toks (F := F)) $$ Htok
  iapply (to_each (R := records m K) fun c _ => started_intro m K c)
  isplitr
  · unfold records; isplitl; · iexact HI
    iexact HR
  · iapply (Entails.of_eq (bigSep_sep' Finset.univ (fun c : Dev nD => bigSep Finset.univ fun k : Fin 26 => (atPos ER (kcell (c, k)) 0 ∅ 0 : sProp 𝕄)) paidToks).symm)
    isplitl [Hat]; · iexact Hat
    iexact Htk

theorem start_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (started m) :=
  ((bigSep_mono fun c _ => allocate m c).trans (bigSep_fupd _ _)).trans (BI.fupd_mono (share_out m))

/-! ## The credits -/

theorem owing_cons (x : GSem nD τ sig × ℕ) (l : List (GSem nD τ sig × ℕ)) (g : GSem nD τ sig) :
    owing (x :: l) g () = owing l g () + if g = x.1 then x.2 else 0 := by
  show (owing l + tallyAt x.1 () x.2) g () = _
  rw [Pi.add_apply, Finsupp.add_apply, tallyAt_apply]; simp only [and_true]

theorem bar_eq_iff {a b : Dev nD} : barCell a = barCell b ↔ a = b :=
  ⟨fun h => congrArg (fun g : GSem nD τ sig => g.1.1) h, fun h => h ▸ rfl⟩
theorem bar_ne_dma {a b : Dev nD} {q : DmaSem sig} : barCell a = dmaCell b q ↔ False :=
  ⟨fun h => (by cases congrArg Prod.snd h), False.elim⟩
theorem dma_ne_bar {a b : Dev nD} {q : DmaSem sig} : dmaCell a q = barCell b ↔ False :=
  ⟨fun h => (by cases congrArg Prod.snd h), False.elim⟩
theorem recv_eq_iff {a b : Dev nD} {d e : Fin 8} : dmaCell a (recvS d) = dmaCell b (recvS e) ↔ a = b ∧ d = e := by
  refine ⟨fun h => ⟨congrArg (fun g : GSem nD τ sig => g.1.1) h, ?_⟩, fun h => by rw [h.1, h.2]⟩
  have h2 : recvS d = recvS e := by injection (congrArg Prod.snd h : SemLoc.dma (recvS d) = SemLoc.dma (recvS e))
  exact Fin.ext (by have := congrArg Fin.val h2; simp only [recvS] at this; omega)

/-- How many of device `b`'s copies land on receive `d` of device `c`. -/
def hits (b c : Dev nD) (d : Fin 8) : ℕ := ([1, 2, 3, 4, 5, 6, 7] : List (Fin 8)).countP fun e => c = up b e ∧ d = e
/-- How many of its signals reach device `c`. -/
def calls (b c : Dev nD) : ℕ := ([1, 2, 3, 4, 5, 6, 7] : List (Fin 8)).countP fun e => c = up b e

theorem owed_bar (b c : Dev nD) : owing (dues b) (barCell c) () = calls b c := by
  simp only [dues, recvDues, owing_cons, barDue, recvDue, bar_eq_iff, bar_ne_dma, if_false, calls, List.countP_cons, List.countP_nil, decide_eq_true_eq]
  rfl

theorem scale (p : Prop) [Decidable p] (N : ℕ) : (if p then N else 0) = (if p then 1 else 0) * N := by split <;> simp

theorem owed_recv (b c : Dev nD) (d : Fin 8) : owing (dues b) (dmaCell c (recvS d)) () = hits b c d * NB := by
  simp only [dues, recvDues, owing_cons, barDue, recvDue, recv_eq_iff, dma_ne_bar, if_false, Nat.add_zero, hits, List.countP_cons, List.countP_nil, decide_eq_true_eq,
    Nat.add_mul, Nat.zero_mul, ← scale]
  rfl

theorem credit_bar (c : Dev nD) :
    tallyOn (barCell c) (launchCredit (Pipeline.owing fun b => owing (dues b)) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun b _ => owed_bar b c]
  revert c; decide

theorem credit_recv (c : Dev nD) (d : Fin 8) :
    tallyOn (dmaCell c (recvS d)) (launchCredit (Pipeline.owing fun b => owing (dues b)) 0 (dmaCell c (recvS d)))
      = (tallyAt (dmaCell c (recvS d)) () (slotUnits d) : CellTallies nD τ sig Unit) := by
  have h : ∀ c : Dev nD, ∀ d : Fin 8, ∑ b, hits b c d = if d = 0 then 0 else 1 := by decide +kernel
  unfold tallyAt; refine congrArg _ (Finsupp.ext fun u => ?_); cases u
  rw [Pipeline.launchCredit_owing, Finsupp.single_eq_same, Finset.sum_congr rfl fun b _ => owed_recv b c d, ← Finset.sum_mul, h c d]
  unfold slotUnits; split <;> simp

/-- The credits a device is given: seven units of its barrier's, and of each receive its transfer's. -/
theorem credits (c : Dev nD) : (Pipeline.launchCred (fun b => owing (dues b)) c : sProp 𝕄)
    ⊢ iprop(cred (tallyAt (barCell c) () 7) ∗ bigSep Finset.univ fun d => cred (tallyAt (dmaCell c (recvS d)) () (slotUnits d))) := by
  unfold Pipeline.launchCred
  rw [bigSep_univ_at _ (SemLoc.reg barS), credit_bar]
  refine sep_mono_right ?_
  have hinj : Function.Injective fun d : Fin 8 => (SemLoc.dma (recvS d) : SemLoc sig) := by
    have h : ∀ d e : Fin 8, (SemLoc.dma (recvS d) : SemLoc sig) = .dma (recvS e) → d = e := by decide
    exact fun d e => h d e
  have hsub : Finset.univ.map ⟨_, hinj⟩ ⊆ (Finset.univ.erase (SemLoc.reg barS) : Finset (SemLoc sig)) := fun sm hsm => by
    obtain ⟨d, -, rfl⟩ := Finset.mem_map.mp hsm
    exact Finset.mem_erase.mpr ⟨fun h : (SemLoc.dma (recvS d) : SemLoc sig) = SemLoc.reg barS => (nomatch h), Finset.mem_univ _⟩
  refine (bigSep_subset hsub).trans ?_
  rw [bigSep_map]
  exact bigSep_mono fun d _ => Entails.of_eq (congrArg (fun t => (cred t : sProp 𝕄)) (credit_recv c d))

end Cert.RowMix

end
-- ==== Proof.Launch.lean ====
/- The whole run, over any float values: every device's body from what the launch deals it, and the state all executions
   end in — the result array of each device at the accumulated products, its arguments as they were, every semaphore at
   zero. -/
module

public import proofs.«01_k».proof.Defs
public import proofs.«01_k».proof.Proof.Body
public import proofs.«01_k».proof.Proof.Cells
public import proofs.«01_k».proof.Proof.Gen.KernelIdeal.Points
public import Idealize.ShloMosaic.Lib.Quiescent
public import Idealize.ShloMosaic.Lib.Pipeline.CollectiveSegs

@[expose] public section

noncomputable section

namespace Cert.RowMix

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pipeline's data: one point, one window -/

def dats (_ : Fin 1) (c : Dev nD) : Dat τ (Elt F) Unit ℕ UU ℕ cfg0 c where
  A w := m ((cfg0.win w).arr.view.loc (c : Thread nD τ))
  after w _ := match w with
    | ⟨0, _⟩ => result m c
  Φ t := match t with
    | ⟨0, _⟩ => iprop(∃ K, before m K c)
    | ⟨_ + 1, _⟩ => afterwards m c
  q _ := fullShare
  owed t := match t with
    | ⟨0, _⟩ => owing (dues c)
    | ⟨_ + 1, _⟩ => 0

theorem owns_at (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

/-- What the pipeline asks of the body at its point: -/
theorem body_obligation (c : Dev nD) : BodyObligation (dats (F := F) m 0 c) (defs₀ (F := F)) 𝒱₀ () Set.univ := fun t => by
  rw [fin_N0 t]
  rw [bigSep_W0, bigSep_W0]
  show iprop((∃ K, before m K c) ∗ (dats m 0 c).owesAt () t0_0.castSucc
      ∗ (∃ d, owns (c : Thread nD τ) oM fullShare ((dats m 0 c).before (0 : Fin 1) t0_0 d)))
    ⊢ runs c (cc0_body xM (Memref.isWhole_whole _) wM (Memref.isWhole_whole _) oM (Memref.isWhole_whole _) xvM (Memref.isWhole_whole _)
          wvM (Memref.isWhole_whole _) xbM (Memref.isWhole_whole _) gM (Memref.isWhole_whole _) wbM (Memref.isWhole_whole _)
          cc0_scratch5 cc0_scratch6 cc0_scratch7 cc0_scratch8)
        (fun _ => iprop(afterwards m c ∗ (dats m 0 c).owesAt () t0_0.succ ∗ owns (c : Thread nD τ) oM fullShare (result m c)))
  iintro ⟨⟨%K, Hb⟩, ⟨%W, -, HO⟩, ⟨%d, Ho⟩⟩
  iapply (sound_body m K c fun _ => iprop(afterwards m c ∗ (dats m 0 c).owesAt () t0_0.succ ∗ owns (c : Thread nD τ) oM fullShare (result m c)))
  isplitl
  · isplitl [Hb]; · iexact Hb
    isplitl [HO]
    · unfold debts; iexists W; iexact HO
    · iexists ((dats m 0 c).before (0 : Fin 1) t0_0 d)
      iapply (Entails.of_eq (owns_at (F := F) c cc0_stg0_0 ((dats m 0 c).before (0 : Fin 1) t0_0 d))); iexact Ho
  · unfold debts
    iintro ⟨Ha, ⟨%W', HO⟩, Ho⟩
    isplitl [Ha]; · iexact Ha
    isplitl [HO]
    · iexists W'
      isplitr; · ipureintro; exact fun _ _ => Or.inl trivial
      iexact HO
    · iapply (Entails.of_eq (owns_at (F := F) c cc0_stg0_0 (result m c)).symm); iexact Ho

/-! ## The launch's conditions -/

theorem share_eq (c : Dev nD) (w : Fin cfg0.W) : (dats m 0 c).share w = fullShare := by unfold Dat.share; split <;> rfl

/-- A device's two arguments, untouched. -/
def args (c : Dev nD) : sProp 𝕄 :=
  iprop((((c : Thread nD τ).loc main_arg0) ↦{fullShare} xIn m c) ∗ (((c : Thread nD τ).loc main_arg1) ↦{fullShare} wIn m c))

def start (c : Dev nD) : sProp 𝕄 :=
  iprop(started m c ∗ (cred (tallyAt (barCell c) () 7) ∗ bigSep Finset.univ fun d => cred (tallyAt (dmaCell c (recvS d)) () (slotUnits d)))
    ∗ levAts L lv ∗ args m c)

theorem start_intro (c : Dev nD) :
    iprop(Pipeline.unscopedRestP Pipeline.Prefetch.none cfg0.spec c (fun b => m ((c : Thread nD τ).loc b)) ∗ levAts L lv
        ∗ Pipeline.launchCred (fun b => owing (dues b)) c ∗ prngReg c (ρ c) ∗ started m c)
      ⊢ |={Set.univ}=> iprop(start m c ∗ emp) := by
  rw [Pipeline.unscopedRestP_none, unscopedRest0_eq]
  iintro ⟨Ha, Hlev, Hcr, -, HG⟩
  ihave Hc := (credits (F := F) c) $$ Hcr
  imodintro
  unfold start
  isplitl
  · isplitl [HG]; · iexact HG
    isplitl [Hc]; · iexact Hc
    isplitl [Hlev]; · iexact Hlev
    unfold args xIn wIn; iexact Ha
  · iempintro

/-- A device's positions and rights, sorted by place: -/
theorem own_by_place (c : Dev nD) : own c ⊢ (iprop((bigSep Finset.univ fun d =>
      iprop(dutyTok ER (barCell (up c d)) 0 (-d) ∗ dutyTok ER (dmaCell c (sendS d)) 0 0 ∗ dutyTok ER (dmaCell (up c d) (recvS d)) 0 0
        ∗ dutyTok ER (dmaCell c (wS d)) 0 0 ∗ atPos ER (dmaCell c (sendS d)) 0 ∅ 0 ∗ atPos ER (dmaCell c (recvS d)) 0 ∅ 0 ∗ atPos ER (dmaCell c (wS d)) 0 ∅ 0))
      ∗ atPos ER (barCell c) 0 ∅ 0 ∗ atPos ER (dmaCell c xS) 0 ∅ 0 ∗ dutyTok ER (dmaCell c xS) 0 0) : sProp 𝕄) := by
  unfold own paidToks
  rw [by_cell]
  simp only [kcell_succ, kcell_bar]
  rw [by_kind fun k => (atPos ER (dmaCell c k) 0 ∅ 0 : sProp 𝕄)]
  simp only [bigSep_sep']
  iintro ⟨⟨Hb, Hs, Hr, Hx, Hw⟩, T1, T2, T3, T4, T5⟩
  isplitr [Hb Hx T5]
  · isplitl [T1]; · iexact T1
    isplitl [T2]; · iexact T2
    isplitl [T3]; · iexact T3
    isplitl [T4]; · iexact T4
    isplitl [Hs]; · iexact Hs
    isplitl [Hr] <;> iassumption
  · isplitl [Hb]; · iexact Hb
    isplitl [Hx] <;> iassumption

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, before m K c) from rfl, scopedRest0_eq]
  unfold start started args
  iintro ⟨⟨⟨%K, HK, Hown⟩, ⟨Hcb, Hcr⟩, Hlev, Hx, Hw⟩, -, Hxv, Hwv, Hxb, Hg, Hwb⟩
  ihave Hown := (own_by_place (F := F) c) $$ Hown
  icases Hown with ⟨Hk, Hb, Hax, Htx⟩
  ihave Hw := (deal_w m c) $$ Hw
  ihave Hwv := (deal_v (F := F) c) $$ Hwv
  ihave Hwb := (deal_b (F := F) c) $$ Hwb
  ihave Hg := (deal_slots (F := F) c) $$ Hg
  iexists K
  unfold before kit
  simp only [bigSep_sep']
  icases Hk with ⟨T1, T2, T3, T4, Hs, Hr, Hpw⟩
  isplitl [HK Hlev]
  · isplitl [HK] <;> iassumption
  isplitl [T1 Hg T2 T3 Hw Hwv T4 Hpw Hwb Hcr Hr Hs]
  · isplitl [T1 Hg]
    · isplitl [T1] <;> iassumption
    isplitl [T2 T3]
    · isplitl [T2] <;> iassumption
    isplitl [Hw Hwv T4]
    · isplitl [Hw]; · iexact Hw
      isplitl [Hwv] <;> iassumption
    isplitl [Hpw Hwb]
    · isplitl [Hpw] <;> iassumption
    isplitl [Hcr Hr]
    · isplitl [Hcr] <;> iassumption
    iexact Hs
  isplitl [Hcb Hb]
  · isplitl [Hcb] <;> iassumption
  isplitl [Hx Hxv Htx]
  · isplitl [Hx]
    · iapply (Entails.of_eq (owns_at (F := F) c main_arg0 (xIn m c)).symm); iexact Hx
    isplitl [Hxv]
    · icases Hxv with ⟨%f, Hxv⟩
      iexists f
      iapply (Entails.of_eq (owns_at (F := F) c cc0_scratch0 f).symm); iexact Hxv
    iexact Htx
  isplitl [Hax] <;> iassumption

theorem after_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = afterwards m c from rfl, scopedRest0_eq, ownSems0_eq, unscopedSems0_eq,
    by_kind fun k => (semVal (dmaCell c k) 0 : sProp 𝕄)]
  unfold afterwards xPay args
  iintro ⟨Hs, Hzb, Hzx, Hxv, Hx⟩
  ihave H := (gather m c) $$ Hs
  simp only [bigSep_sep']
  icases H with ⟨⟨Z1, Z2, Z3⟩, Hw, H1, H2, H3, H4⟩
  isplitl [Hzb Hx Hw]
  · isplitl [Hzb]; · iexact Hzb
    isplitl [Hx]
    · iapply (Entails.of_eq (owns_at (F := F) c main_arg0 (xIn m c))); iexact Hx
    · iexact Hw
  isplitl [Z1 Z2 Z3 Hzx]
  · isplitl [Z1]; · iexact Z1
    isplitl [Z2]; · iexact Z2
    isplitl [Hzx] <;> iassumption
  isplitl [Hxv]
  · iexists (xIn m c); iapply (Entails.of_eq (owns_at (F := F) c cc0_scratch0 (xIn m c))); iexact Hxv
  isplitl [H1]; · iexact H1
  isplitl [H2]; · iexact H2
  isplitl [H3] <;> iassumption

/-- The pipeline's own semaphore is below everything a device owes. -/
theorem waits (c : Dev nD) : (levAts L lv : sProp 𝕄) ⊢ Pipeline.cellsWaits cfgs (dats m) () 0 c :=
  Pipeline.cellsWaits_intro cfgs (dats m) () 0 c fun w s t => by
    have hs : role (.dma ((cfg0.spec w).sem s)) = .idle := by fin_cases w; fin_cases s; decide
    rcases t with ⟨_ | _, ht⟩
    · exact mayWait_of c _ (dues c) fun x hx => ⟨(level_dues c x hx).1, by rw [hs]; exact (level_dues c x hx).2⟩
    · exact mayWait_of c _ [] fun x hx => absurd hx List.not_mem_nil

/-- The arguments read at the end. -/
theorem args_read (c : Dev nD) (s' : Phys nD τ sig (Elt F)) :
    iprop(args m c ∗ SI s') ⊢ (iprop(⌜s'.mem.mem ((c : Thread nD τ).loc main_arg0) = xIn m c ∧ s'.mem.mem ((c : Thread nD τ).loc main_arg1) = wIn m c⌝ ∗ SI s') : sProp 𝕄) := by
  unfold args
  iintro ⟨⟨Hx, Hw⟩, HSI⟩
  icombine HSI Hx gives %h
  icombine HSI Hw gives %h'
  isplitr
  · ipureintro; exact ⟨Buf.eq_of_forall_mem_univ h, Buf.eq_of_forall_mem_univ h'⟩
  · iexact HSI

/-! ## The run -/

/-- Every execution's end: -/
def Ends (r : PUnit × MemSt nD τ sig (Elt F)) : Prop :=
  (∀ c : Dev nD, r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The result array's one block is the whole array. -/
theorem out_eq (c : Dev nD) : (dats m 0 c).arrAt (0 : Fin 1) cfg0.N = result m c := by
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  have h : (win0_0.blk (0 : Fin 1)).view.read (Elt F) ((dats m 0 c).arrAt (0 : Fin 1) cfg0.N) = result m c := by
    rw [show cfg0.N = ((0 : Fin 1) : Fin cfg0.N).val + 1 from rfl, (dats m 0 c).arrAt_succ (0 : Fin 1) (0 : Fin 1),
      show (cfg0.win (0 : Fin 1)).flush (0 : Fin 1) = true from by decide, if_pos rfl]
    exact View.read_write_univ _ _
  exact (hr _).symm.trans h

set_option maxRecDepth 8000 in
/-- From any memory with zero counters every fair execution of the eight devices terminates, with each device's result
    array at its accumulated products, its arguments unchanged and every semaphore counter at zero. -/
theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun c => owing (dues c)) (howed₀ := fun _ => rfl) (howedN := fun _ => rfl)
    (L := L) (lv := lv) (hL := L_of_ne) (hwaits := waits m)
    (G := dealt m) (G' := started m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := start_all m)
    (hA := fun _ _ => rfl) (hpf := fun _ k => k.elim0)
    (X := start m) (Y := fun c => iprop(unscopedSems0 c ∗ args m c)) (Z := fun _ => iprop(emp))
    (hX := start_intro m ρ) (hin := before_intro m) (hout := after_exit m)
    (QY := fun c s => (∀ sm : SemLoc sig, sm.isScoped .tc = false → s.sem ((c.tc : Thread nD τ), sm) = 0)
      ∧ s.mem ((c : Thread nD τ).loc main_arg0) = xIn m c ∧ s.mem ((c : Thread nD τ).loc main_arg1) = wIn m c)
    (hY := fun c s' => by
      iintro ⟨⟨Hu, Ha⟩, -, HSI⟩
      imod (Pipeline.unscopedSems0_read (X := unscopedSems0 c) (c := c) fupd_intro s') $$ [Hu HSI] with ⟨%hu, HSI⟩
      · isplitl [Hu] <;> iassumption
      ihave H := (args_read m c s') $$ [Ha HSI]
      · isplitl [Ha] <;> iassumption
      icases H with ⟨%ha, HSI⟩
      imodintro
      isplitr
      · ipureintro; exact ⟨hu, ha⟩
      · iexact HSI)
    (hQ := fun _ h hs => ⟨fun c => ⟨((h c).1 (0 : Fin 1)).trans (out_eq m c), (h c).2.2.2.1, (h c).2.2.2.2⟩, sem_eq_zero hs fun c => (h c).2.2.1⟩)

/-- The same with the result array's contents left out. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => (h.1 c).2, h.2⟩) (run_main m ρ)

end Cert.RowMix

end
-- ==== Proof.Product.lean ====
/- What one block computes on the extended reals: a slot of the landing buffer times a row block of the second operand,
   alone or added to the sum so far, read one entry at a time. Rounding to bf16 is the identity there. -/
module

public import proofs.«01_k».proof.Proof.Contents
public import Idealize.ShloMosaic.Lib.MatmulPlain
public import Idealize.ShloMosaic.Lib.KernelVsHost
public import Idealize.ShloMosaic.Lib.ValueIdx
public import Idealize.ShloMosaic.Lib.Pointwise

@[expose] public section

noncomputable section

namespace Cert.RowMix

open Cert.KernelIdeal Cert.KernelIdeal.Gen
open Idealize.ShloMosaic
open scoped BigOperators

variable (g : S1x128x128.Idx → Elt Ideal .bf16) (w : S128x1024.Idx → Elt Ideal .bf16) (v : S128x1024.Idx → Elt Ideal .f32)

/-- Row `i` of the slot times column `j` of the row block. -/
def rowTimes (i : Fin 128) (j : Fin 1024) : EReal := ∑ k : Fin 128, g (ix3 0 i k) * w (ix2 k j)

/-- The first product at an entry; -/
theorem first_apply (i : Fin 128) (j : Fin 1024) : k0_pay4 (F := Ideal) g w (ix2 i j) = rowTimes g w i j := by
  unfold k0_pay4 rowTimes
  pointwise

/-- a later one, added to the sum so far. -/
theorem later_apply (i : Fin 128) (j : Fin 1024) :
    k0_pay9 (F := Ideal) g w v (ix2 i j) = v (ix2 i j) + rowTimes g w i j := by
  unfold k0_pay9 rowTimes
  pointwise

/-- A block given a leading axis of one; -/
theorem slot_apply (u : S128x128.Idx → Elt Ideal .bf16) (i k : Fin 128) : k0_pay2 (F := Ideal) u (ix3 0 i k) = u (ix2 i k) := by
  unfold k0_pay2
  pointwise

/-- the two roundings. -/
theorem roundX (x : S1024x128.Idx → Elt Ideal .f32) (i : Fin 1024) (k : Fin 128) : k0_pay1 (F := Ideal) x (ix2 i k) = x (ix2 i k) := by
  unfold k0_pay1
  pointwise
theorem roundW (x : S128x1024.Idx → Elt Ideal .f32) (k : Fin 128) (j : Fin 1024) : k0_pay3 (F := Ideal) x (ix2 k j) = x (ix2 k j) := by
  unfold k0_pay3
  pointwise

end Cert.RowMix

end
-- ==== Proof.Array.lean ====
/- What a device's result array holds on the extended reals: entry `(i, j)` of device `c` is the sum, over the eight places
   `d`, of row `128 c + i` of the columns that the device `d` places before `c` held times column `j` of the rows of the
   second operand those columns meet. -/
module

public import proofs.«01_k».proof.Proof.Product

@[expose] public section

noncomputable section

namespace Cert.RowMix

open Cert.KernelIdeal Cert.KernelIdeal.Gen
open Idealize.ShloMosaic
open Idealize.ShloMosaic.TcCoe
open scoped BigOperators

variable (m : (ℓ : Loc nD τ sig) → Buf (Elt Ideal) ℓ)

/-- Position `i` of block `b`, of eight blocks of 128. -/
def inBlock (b : Fin 8) (i : Fin 128) : Fin 1024 := ⟨b.val * 128 + i.val, by omega⟩

/-- Where the two kinds of row block put an entry. -/
theorem rowsX_emb (b : Fin 8) (i k : Fin 128) : (rowsX b).emb (ix2 i k) = (ix2 (inBlock b i) k : S1024x128.Idx) := by
  funext a
  apply Fin.ext
  match a with
  | ⟨0, _⟩ => show 128 * b.val + 1 * i.val = b.val * 128 + i.val; omega
  | ⟨1, _⟩ => show 0 + 1 * k.val = k.val; omega
theorem rowsW_emb (b : Fin 8) (k : Fin 128) (j : Fin 1024) : (rowsW b).emb (ix2 k j) = (ix2 (inBlock b k) j : S1024x1024.Idx) := by
  funext a
  apply Fin.ext
  match a with
  | ⟨0, _⟩ => show 128 * b.val + 1 * k.val = b.val * 128 + k.val; omega
  | ⟨1, _⟩ => show 0 + 1 * j.val = j.val; omega

/-- What slot `d` holds, -/
theorem slab_apply (c : Dev nD) (d : Fin 8) (i k : Fin 128) :
    slab m c d (ix3 0 i k) = xIn m (down c d) (ix2 (inBlock c i) k) := by
  unfold slab
  rw [slot_apply]
  unfold part xLow
  rw [rowsX_emb]
  exact roundX _ _ _

/-- and the rows it meets. -/
theorem wgtLow_apply (c : Dev nD) (d : Fin 8) (k : Fin 128) (j : Fin 1024) :
    wgtLow m c d (ix2 k j) = wIn m c (ix2 (inBlock (down c d) k) j) := by
  unfold wgtLow
  rw [roundW]
  unfold wgt
  rw [rowsW_emb]

/-- What place `d` adds to an entry. -/
def term (c : Dev nD) (i : Fin 128) (j : Fin 1024) (d : Fin 8) : EReal :=
  ∑ k : Fin 128, xIn m (down c d) (ix2 (inBlock c i) k) * wIn m c (ix2 (inBlock (down c d) k) j)

theorem rowTimes_eq (c : Dev nD) (i : Fin 128) (j : Fin 1024) (d : Fin 8) :
    rowTimes (slab m c d) (wgtLow m c d) i j = term m c i j d :=
  Finset.sum_congr rfl fun k _ => by rw [slab_apply, wgtLow_apply]

theorem sum0_apply (c : Dev nD) (i : Fin 128) (j : Fin 1024) : sum0 m c (ix2 i j) = term m c i j 0 := by
  unfold sum0
  rw [first_apply, rowTimes_eq]

theorem addStep_apply (c : Dev nD) (d : Fin 8) (v : S128x1024.Idx → Elt Ideal .f32) (i : Fin 128) (j : Fin 1024) :
    addStep m c d v (ix2 i j) = v (ix2 i j) + term m c i j d := by
  unfold addStep
  rw [later_apply, rowTimes_eq]

/-- The result array at an entry. -/
theorem result_apply (c : Dev nD) (i : Fin 128) (j : Fin 1024) : result m c (ix2 i j) = ∑ d : Fin 8, term m c i j d := by
  unfold result
  rw [Fin.sum_univ_eight]
  simp only [addStep_apply, sum0_apply]

end Cert.RowMix

end
-- ==== Proof.Reference.lean ====
/- What the reference computes on the extended reals: entry `(r, j)` of its result is row `r` of the first operand times
   column `j` of the second. -/
module

public import proofs.«01_k».proof.Proof.Gen.ReferenceIdeal.Run
public import Idealize.ShloMosaic.Lib.Pointwise

@[expose] public section

noncomputable section

namespace Cert.RowMix.Ref

open Cert.ReferenceIdeal Cert.ReferenceIdeal.Gen
open Idealize.ShloMosaic
open scoped BigOperators

/-- The matrix product. -/
def product (X W : S1024x1024.Idx → Elt Ideal .f32) : S1024x1024.Idx → Elt Ideal .f32 :=
  Host.dotGeneral (F := Ideal) (φ₁ := .f32) (φ₂ := .f32) dot_S1024x1024_S1024x1024_S1024x1024_1_0_0_1_n_n none X W

theorem product_apply (X W : S1024x1024.Idx → Elt Ideal .f32) (r j : Fin 1024) :
    product X W (ix2 r j) = ∑ k : Fin 1024, X (ix2 r k) * W (ix2 k j) := by
  unfold product
  pointwise

end Cert.RowMix.Ref

end
-- ==== Proof.Equation.lean ====
/- The equation: when each device holds its columns of the whole first operand and a copy of the whole second, its result
   array is its block of rows of their matrix product. The reference sums over 1024 positions in order; a device sums
   them by blocks of 128, its own block first and then the block of each device before it in turn. -/
module

public import proofs.«01_k».proof.Proof.Accum
public import proofs.«01_k».proof.Proof.Array
public import proofs.«01_k».proof.Proof.Reference
public import Idealize.ShloMosaic.Lib.Layout
public import Idealize.ShloMosaic.Lib.Pointwise.Sums

@[expose] public section

noncomputable section

namespace Cert.RowMix

open Cert.KernelIdeal Cert.KernelIdeal.Gen
open Idealize.ShloMosaic
open Idealize.ShloMosaic.TcCoe
open scoped BigOperators

/-- A sum over 1024 positions, block by block, the blocks in the order a device takes them. -/
theorem sum_by_place (c : Fin 8) (f : Fin 1024 → EReal) :
    ∑ k : Fin 1024, f k = ∑ d : Fin 8, ∑ k : Fin 128, f (inBlock (down c d) k) := by
  rw [Fin.sum_univ_tiles 8 128 (by decide) f]
  exact (Equiv.sum_comp (downs c) fun b : Fin 8 => ∑ k : Fin 128, f (inBlock b k)).symm

/-- Where a device's columns lie in the whole first operand, -/
theorem columns_idx (h : Layout.Tiles ⟨2, ![1024, 128]⟩ ⟨2, ![1024, 1024]⟩ 1 8) (c : Fin 8) (r : Fin 1024) (k : Fin 128) :
    h.idx c (ix2 r k) = ix2 r (inBlock c k) := by
  funext a
  apply Fin.ext
  match a with
  | ⟨0, _⟩ => rfl
  | ⟨1, _⟩ => rfl
/-- and its rows in the whole result. -/
theorem rows_idx (h : Layout.Tiles ⟨2, ![128, 1024]⟩ ⟨2, ![1024, 1024]⟩ 0 8) (c : Fin 8) (i : Fin 128) (j : Fin 1024) :
    h.idx c (ix2 i j) = ix2 (inBlock c i) j := by
  funext a
  apply Fin.ext
  match a with
  | ⟨0, _⟩ => rfl
  | ⟨1, _⟩ => rfl

/-- **The equation.** -/
theorem result_eq (m : (ℓ : Loc nD τ sig) → Buf (Elt Ideal) ℓ) (X W : S1024x1024.Idx → Elt Ideal .f32)
    (hX : ∀ c : Dev nD, xIn m c = Layout.block ⟨2, ![1024, 128]⟩ ⟨2, ![1024, 1024]⟩ 1 8 c X)
    (hW : ∀ c : Dev nD, wIn m c = W) (c : Dev nD) :
    result m c = Layout.block ⟨2, ![128, 1024]⟩ ⟨2, ![1024, 1024]⟩ 0 8 c (Ref.product X W) := by
  funext y
  obtain ⟨i, j, rfl⟩ : ∃ (i : Fin 128) (j : Fin 1024), y = ix2 i j := ⟨y 0, y 1, eq_ix2 y⟩
  rw [result_apply, Layout.block_apply, rows_idx, Ref.product_apply, sum_by_place c]
  refine Finset.sum_congr rfl fun d _ => Finset.sum_congr rfl fun k _ => ?_
  rw [hX, hW, Layout.block_apply, columns_idx]

end Cert.RowMix

end
-- ==== Proof.lean ====
/- The five claims. The kernel and the idealized kernel have the same text, so one run over any float values gives both of
   their frames; its reading on the extended reals and the reference's give the equation of the two results. -/
module

public import proofs.«01_k».proof.Defs
public import proofs.«01_k».proof.Proof.Launch
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem Cert.RowMix

/-- The two programs name one body under one label, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun p => ?_)
  rcases l with ⟨_ | n, h⟩
  · rcases p with ⟨t, s⟩
    rfl
  · exact absurd h (Nat.not_lt.2 (Nat.le_add_left _ _))
/-- so their definitions are equal. -/
theorem defs_eq {F : FTy → Type} [FloatOps F] : Cert.Kernel.defs (F := F) = Cert.KernelIdeal.defs (F := F) :=
  congrArg (Pipeline.defs (Cert.KernelIdeal.pcfgs (F := F))) bodies_eq

/-- The kernel at the words: its frame. -/
theorem frame_kernel : Cert.quiescent_Kernel := fun m ρ _ => by
  rw [defs_eq]
  exact run_frame (F := Bits) m ρ

/-- The kernel on the extended reals: its frame. -/
theorem frame_ideal : Cert.quiescent_KernelIdeal := fun m ρ _ => run_frame (F := Ideal) m ρ

/-- The reference: its frame. It declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's results are the reference's, each device's its block of rows. -/
theorem algebraic : Cert.algebraic_KernelIdeal_ReferenceIdeal := by
  intro m g m' g' _ hagree
  refine ⟨Ref.product
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (result_eq m _ _ (fun c => (hagree c).1) (fun c => (hagree c).2) c), (h.1 c).2⟩)
      (run_main (F := Ideal) m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_ideal, frame_reference, trivial, algebraic⟩

end Cert.Proof

end
